-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x256x1024 .f32) (main_arg1 : FVec F S1024x1024 .f32) (main_arg2 : FVec F S1x4096x32x128 .f32) (main_arg3 : FVec F S1x4096x32x128 .f32) (main_arg4 : FVec F S1024x1024 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x32x128 : Shape := ⟨4, ![1, 4096, 32, 128]⟩
abbrev S256x1024 : Shape := ⟨2, ![256, 1024]⟩
abbrev S768x1024 : Shape := ⟨2, ![768, 1024]⟩
abbrev S4096x1024 : Shape := ⟨2, ![4096, 1024]⟩
abbrev S_ : Shape := ⟨0, ![]⟩
abbrev S3 : Shape := ⟨1, ![3]⟩
abbrev S64x1024 : Shape := ⟨2, ![64, 1024]⟩
abbrev S4096x4096 : Shape := ⟨2, ![4096, 4096]⟩
abbrev S1 : Shape := ⟨1, ![1]⟩
abbrev S64x128 : Shape := ⟨2, ![64, 128]⟩
abbrev S1024x128 : Shape := ⟨2, ![1024, 128]⟩
abbrev S64 : Shape := ⟨1, ![64]⟩
abbrev S64x1 : Shape := ⟨2, ![64, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x32x128, .f32⟩
  | .hbm, ⟨3, _⟩ => ⟨S1x4096x32x128, .f32⟩
  | .hbm, ⟨4, _⟩ => ⟨S1024x1024, .f32⟩
  | .hbm, ⟨5, _⟩ => ⟨S256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S1024x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .f32⟩
  | .local _ .vmem, ⟨8, _⟩ => ⟨S768x1024, .f32⟩
  | .local _ .vmem, ⟨9, _⟩ => ⟨S4096x1024, .f32⟩
  | .local _ .vmem, ⟨10, _⟩ => ⟨S4096x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_4 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v7 : BitVec 32 := Scalar.muli v2 c8_i32
  let c128_i32 : BitVec 32 := 128#32
  let v8 : BitVec 32 := Scalar.muli v7 c128_i32
  ![0, v8.toNat]
def k0_off2 (d0 : Dev nD) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_5 : BitVec 32 := 8#32
  let v12 : BitVec 32 := Scalar.muli v2 c8_i32_5
  let c128_i32_6 : BitVec 32 := 128#32
  let v13 : BitVec 32 := Scalar.muli v12 c128_i32_6
  ![256, v13.toNat]
def k0_off3 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_8 : BitVec 32 := 8#32
  let v17 : BitVec 32 := Scalar.muli v2 c8_i32_8
  let c128_i32_9 : BitVec 32 := 128#32
  let v18 : BitVec 32 := Scalar.muli v17 c128_i32_9
  ![512, v18.toNat]
def k0_off4 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_12 : BitVec 32 := 8#32
  let v22 : BitVec 32 := Scalar.muli v2 c8_i32_12
  let c128_i32_13 : BitVec 32 := 128#32
  let v23 : BitVec 32 := Scalar.muli v22 c128_i32_13
  ![768, v23.toNat]
def k0_off5 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_15 : BitVec 32 := 8#32
  let v27 : BitVec 32 := Scalar.muli v2 c8_i32_15
  let c128_i32_16 : BitVec 32 := 128#32
  let v28 : BitVec 32 := Scalar.muli v27 c128_i32_16
  ![1024, v28.toNat]
def k0_off6 (d0 : Dev nD) : Fin 2 → Nat :=
  let c1280_i32 : BitVec 32 := 1280#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_19 : BitVec 32 := 8#32
  let v32 : BitVec 32 := Scalar.muli v2 c8_i32_19
  let c128_i32_20 : BitVec 32 := 128#32
  let v33 : BitVec 32 := Scalar.muli v32 c128_i32_20
  ![1280, v33.toNat]
def k0_off7 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_22 : BitVec 32 := 8#32
  let v37 : BitVec 32 := Scalar.muli v2 c8_i32_22
  let c128_i32_23 : BitVec 32 := 128#32
  let v38 : BitVec 32 := Scalar.muli v37 c128_i32_23
  ![1536, v38.toNat]
def k0_off8 (d0 : Dev nD) : Fin 2 → Nat :=
  let c1792_i32 : BitVec 32 := 1792#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_25 : BitVec 32 := 8#32
  let v42 : BitVec 32 := Scalar.muli v2 c8_i32_25
  let c128_i32_26 : BitVec 32 := 128#32
  let v43 : BitVec 32 := Scalar.muli v42 c128_i32_26
  ![1792, v43.toNat]
def k0_off9 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_28 : BitVec 32 := 8#32
  let v47 : BitVec 32 := Scalar.muli v2 c8_i32_28
  let c128_i32_29 : BitVec 32 := 128#32
  let v48 : BitVec 32 := Scalar.muli v47 c128_i32_29
  ![2048, v48.toNat]
def k0_off10 (d0 : Dev nD) : Fin 2 → Nat :=
  let c2304_i32 : BitVec 32 := 2304#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_32 : BitVec 32 := 8#32
  let v52 : BitVec 32 := Scalar.muli v2 c8_i32_32
  let c128_i32_33 : BitVec 32 := 128#32
  let v53 : BitVec 32 := Scalar.muli v52 c128_i32_33
  ![2304, v53.toNat]
def k0_off11 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_35 : BitVec 32 := 8#32
  let v57 : BitVec 32 := Scalar.muli v2 c8_i32_35
  let c128_i32_36 : BitVec 32 := 128#32
  let v58 : BitVec 32 := Scalar.muli v57 c128_i32_36
  ![2560, v58.toNat]
def k0_off12 (d0 : Dev nD) : Fin 2 → Nat :=
  let c2816_i32 : BitVec 32 := 2816#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_38 : BitVec 32 := 8#32
  let v62 : BitVec 32 := Scalar.muli v2 c8_i32_38
  let c128_i32_39 : BitVec 32 := 128#32
  let v63 : BitVec 32 := Scalar.muli v62 c128_i32_39
  ![2816, v63.toNat]
def k0_off13 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_41 : BitVec 32 := 8#32
  let v67 : BitVec 32 := Scalar.muli v2 c8_i32_41
  let c128_i32_42 : BitVec 32 := 128#32
  let v68 : BitVec 32 := Scalar.muli v67 c128_i32_42
  ![3072, v68.toNat]
def k0_off14 (d0 : Dev nD) : Fin 2 → Nat :=
  let c3328_i32 : BitVec 32 := 3328#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_45 : BitVec 32 := 8#32
  let v72 : BitVec 32 := Scalar.muli v2 c8_i32_45
  let c128_i32_46 : BitVec 32 := 128#32
  let v73 : BitVec 32 := Scalar.muli v72 c128_i32_46
  ![3328, v73.toNat]
def k0_off15 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_48 : BitVec 32 := 8#32
  let v77 : BitVec 32 := Scalar.muli v2 c8_i32_48
  let c128_i32_49 : BitVec 32 := 128#32
  let v78 : BitVec 32 := Scalar.muli v77 c128_i32_49
  ![3584, v78.toNat]
def k0_off16 (d0 : Dev nD) : Fin 2 → Nat :=
  let c3840_i32 : BitVec 32 := 3840#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_51 : BitVec 32 := 8#32
  let v82 : BitVec 32 := Scalar.muli v2 c8_i32_51
  let c128_i32_52 : BitVec 32 := 128#32
  let v83 : BitVec 32 := Scalar.muli v82 c128_i32_52
  ![3840, v83.toNat]
def k0_off17 (d0 : Dev nD) : Fin 2 → Nat :=
  let c64_i32_138 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_134 : BitVec 32 := 8#32
  let v167 : BitVec 32 := Scalar.muli v2 c8_i32_134
  let c128_i32_135 : BitVec 32 := 128#32
  let v168 : BitVec 32 := Scalar.muli v167 c128_i32_135
  ![64, v168.toNat]
def k0_off18 (d0 : Dev nD) : Fin 2 → Nat :=
  let c320_i32_142 : BitVec 32 := 320#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_139 : BitVec 32 := 8#32
  let v172 : BitVec 32 := Scalar.muli v2 c8_i32_139
  let c128_i32_140 : BitVec 32 := 128#32
  let v173 : BitVec 32 := Scalar.muli v172 c128_i32_140
  ![320, v173.toNat]
def k0_off19 (d0 : Dev nD) : Fin 2 → Nat :=
  let c576_i32_146 : BitVec 32 := 576#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_143 : BitVec 32 := 8#32
  let v177 : BitVec 32 := Scalar.muli v2 c8_i32_143
  let c128_i32_144 : BitVec 32 := 128#32
  let v178 : BitVec 32 := Scalar.muli v177 c128_i32_144
  ![576, v178.toNat]
def k0_off20 (d0 : Dev nD) : Fin 2 → Nat :=
  let c832_i32_150 : BitVec 32 := 832#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_147 : BitVec 32 := 8#32
  let v182 : BitVec 32 := Scalar.muli v2 c8_i32_147
  let c128_i32_148 : BitVec 32 := 128#32
  let v183 : BitVec 32 := Scalar.muli v182 c128_i32_148
  ![832, v183.toNat]
def k0_off21 (d0 : Dev nD) : Fin 2 → Nat :=
  let c1088_i32_155 : BitVec 32 := 1088#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_151 : BitVec 32 := 8#32
  let v187 : BitVec 32 := Scalar.muli v2 c8_i32_151
  let c128_i32_152 : BitVec 32 := 128#32
  let v188 : BitVec 32 := Scalar.muli v187 c128_i32_152
  ![1088, v188.toNat]
def k0_off22 (d0 : Dev nD) : Fin 2 → Nat :=
  let c1344_i32_159 : BitVec 32 := 1344#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_156 : BitVec 32 := 8#32
  let v192 : BitVec 32 := Scalar.muli v2 c8_i32_156
  let c128_i32_157 : BitVec 32 := 128#32
  let v193 : BitVec 32 := Scalar.muli v192 c128_i32_157
  ![1344, v193.toNat]
def k0_off23 (d0 : Dev nD) : Fin 2 → Nat :=
  let c1600_i32 : BitVec 32 := 1600#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_160 : BitVec 32 := 8#32
  let v197 : BitVec 32 := Scalar.muli v2 c8_i32_160
  let c128_i32_161 : BitVec 32 := 128#32
  let v198 : BitVec 32 := Scalar.muli v197 c128_i32_161
  ![1600, v198.toNat]
def k0_off24 (d0 : Dev nD) : Fin 2 → Nat :=
  let c1856_i32 : BitVec 32 := 1856#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_163 : BitVec 32 := 8#32
  let v202 : BitVec 32 := Scalar.muli v2 c8_i32_163
  let c128_i32_164 : BitVec 32 := 128#32
  let v203 : BitVec 32 := Scalar.muli v202 c128_i32_164
  ![1856, v203.toNat]
def k0_off25 (d0 : Dev nD) : Fin 2 → Nat :=
  let c2112_i32 : BitVec 32 := 2112#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_166 : BitVec 32 := 8#32
  let v207 : BitVec 32 := Scalar.muli v2 c8_i32_166
  let c128_i32_167 : BitVec 32 := 128#32
  let v208 : BitVec 32 := Scalar.muli v207 c128_i32_167
  ![2112, v208.toNat]
def k0_off26 (d0 : Dev nD) : Fin 2 → Nat :=
  let c2368_i32 : BitVec 32 := 2368#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_170 : BitVec 32 := 8#32
  let v212 : BitVec 32 := Scalar.muli v2 c8_i32_170
  let c128_i32_171 : BitVec 32 := 128#32
  let v213 : BitVec 32 := Scalar.muli v212 c128_i32_171
  ![2368, v213.toNat]
def k0_off27 (d0 : Dev nD) : Fin 2 → Nat :=
  let c2624_i32 : BitVec 32 := 2624#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_174 : BitVec 32 := 8#32
  let v217 : BitVec 32 := Scalar.muli v2 c8_i32_174
  let c128_i32_175 : BitVec 32 := 128#32
  let v218 : BitVec 32 := Scalar.muli v217 c128_i32_175
  ![2624, v218.toNat]
def k0_off28 (d0 : Dev nD) : Fin 2 → Nat :=
  let c2880_i32 : BitVec 32 := 2880#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_177 : BitVec 32 := 8#32
  let v222 : BitVec 32 := Scalar.muli v2 c8_i32_177
  let c128_i32_178 : BitVec 32 := 128#32
  let v223 : BitVec 32 := Scalar.muli v222 c128_i32_178
  ![2880, v223.toNat]
def k0_off29 (d0 : Dev nD) : Fin 2 → Nat :=
  let c3136_i32 : BitVec 32 := 3136#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_180 : BitVec 32 := 8#32
  let v227 : BitVec 32 := Scalar.muli v2 c8_i32_180
  let c128_i32_181 : BitVec 32 := 128#32
  let v228 : BitVec 32 := Scalar.muli v227 c128_i32_181
  ![3136, v228.toNat]
def k0_off30 (d0 : Dev nD) : Fin 2 → Nat :=
  let c3392_i32 : BitVec 32 := 3392#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_184 : BitVec 32 := 8#32
  let v232 : BitVec 32 := Scalar.muli v2 c8_i32_184
  let c128_i32_185 : BitVec 32 := 128#32
  let v233 : BitVec 32 := Scalar.muli v232 c128_i32_185
  ![3392, v233.toNat]
def k0_off31 (d0 : Dev nD) : Fin 2 → Nat :=
  let c3648_i32 : BitVec 32 := 3648#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_188 : BitVec 32 := 8#32
  let v237 : BitVec 32 := Scalar.muli v2 c8_i32_188
  let c128_i32_189 : BitVec 32 := 128#32
  let v238 : BitVec 32 := Scalar.muli v237 c128_i32_189
  ![3648, v238.toNat]
def k0_off32 (d0 : Dev nD) : Fin 2 → Nat :=
  let c3904_i32 : BitVec 32 := 3904#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_191 : BitVec 32 := 8#32
  let v242 : BitVec 32 := Scalar.muli v2 c8_i32_191
  let c128_i32_192 : BitVec 32 := 128#32
  let v243 : BitVec 32 := Scalar.muli v242 c128_i32_192
  ![3904, v243.toNat]
def k0_off33 (d0 : Dev nD) : Fin 2 → Nat :=
  let c128_i32_278 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_274 : BitVec 32 := 8#32
  let v327 : BitVec 32 := Scalar.muli v2 c8_i32_274
  let c128_i32_275 : BitVec 32 := 128#32
  let v328 : BitVec 32 := Scalar.muli v327 c128_i32_275
  ![128, v328.toNat]
def k0_off34 (d0 : Dev nD) : Fin 2 → Nat :=
  let c384_i32_283 : BitVec 32 := 384#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_279 : BitVec 32 := 8#32
  let v332 : BitVec 32 := Scalar.muli v2 c8_i32_279
  let c128_i32_280 : BitVec 32 := 128#32
  let v333 : BitVec 32 := Scalar.muli v332 c128_i32_280
  ![384, v333.toNat]
def k0_off35 (d0 : Dev nD) : Fin 2 → Nat :=
  let c640_i32_287 : BitVec 32 := 640#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_284 : BitVec 32 := 8#32
  let v337 : BitVec 32 := Scalar.muli v2 c8_i32_284
  let c128_i32_285 : BitVec 32 := 128#32
  let v338 : BitVec 32 := Scalar.muli v337 c128_i32_285
  ![640, v338.toNat]
def k0_off36 (d0 : Dev nD) : Fin 2 → Nat :=
  let c896_i32_291 : BitVec 32 := 896#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_288 : BitVec 32 := 8#32
  let v342 : BitVec 32 := Scalar.muli v2 c8_i32_288
  let c128_i32_289 : BitVec 32 := 128#32
  let v343 : BitVec 32 := Scalar.muli v342 c128_i32_289
  ![896, v343.toNat]
def k0_off37 (d0 : Dev nD) : Fin 2 → Nat :=
  let c1152_i32_296 : BitVec 32 := 1152#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_292 : BitVec 32 := 8#32
  let v347 : BitVec 32 := Scalar.muli v2 c8_i32_292
  let c128_i32_293 : BitVec 32 := 128#32
  let v348 : BitVec 32 := Scalar.muli v347 c128_i32_293
  ![1152, v348.toNat]
def k0_off38 (d0 : Dev nD) : Fin 2 → Nat :=
  let c1408_i32_301 : BitVec 32 := 1408#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_297 : BitVec 32 := 8#32
  let v352 : BitVec 32 := Scalar.muli v2 c8_i32_297
  let c128_i32_298 : BitVec 32 := 128#32
  let v353 : BitVec 32 := Scalar.muli v352 c128_i32_298
  ![1408, v353.toNat]
def k0_off39 (d0 : Dev nD) : Fin 2 → Nat :=
  let c1664_i32_305 : BitVec 32 := 1664#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_302 : BitVec 32 := 8#32
  let v357 : BitVec 32 := Scalar.muli v2 c8_i32_302
  let c128_i32_303 : BitVec 32 := 128#32
  let v358 : BitVec 32 := Scalar.muli v357 c128_i32_303
  ![1664, v358.toNat]
def k0_off40 (d0 : Dev nD) : Fin 2 → Nat :=
  let c1920_i32_309 : BitVec 32 := 1920#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_306 : BitVec 32 := 8#32
  let v362 : BitVec 32 := Scalar.muli v2 c8_i32_306
  let c128_i32_307 : BitVec 32 := 128#32
  let v363 : BitVec 32 := Scalar.muli v362 c128_i32_307
  ![1920, v363.toNat]
def k0_off41 (d0 : Dev nD) : Fin 2 → Nat :=
  let c2176_i32_314 : BitVec 32 := 2176#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_310 : BitVec 32 := 8#32
  let v367 : BitVec 32 := Scalar.muli v2 c8_i32_310
  let c128_i32_311 : BitVec 32 := 128#32
  let v368 : BitVec 32 := Scalar.muli v367 c128_i32_311
  ![2176, v368.toNat]
def k0_off42 (d0 : Dev nD) : Fin 2 → Nat :=
  let c2432_i32_319 : BitVec 32 := 2432#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_315 : BitVec 32 := 8#32
  let v372 : BitVec 32 := Scalar.muli v2 c8_i32_315
  let c128_i32_316 : BitVec 32 := 128#32
  let v373 : BitVec 32 := Scalar.muli v372 c128_i32_316
  ![2432, v373.toNat]
def k0_off43 (d0 : Dev nD) : Fin 2 → Nat :=
  let c2688_i32_323 : BitVec 32 := 2688#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_320 : BitVec 32 := 8#32
  let v377 : BitVec 32 := Scalar.muli v2 c8_i32_320
  let c128_i32_321 : BitVec 32 := 128#32
  let v378 : BitVec 32 := Scalar.muli v377 c128_i32_321
  ![2688, v378.toNat]
def k0_off44 (d0 : Dev nD) : Fin 2 → Nat :=
  let c2944_i32 : BitVec 32 := 2944#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_324 : BitVec 32 := 8#32
  let v382 : BitVec 32 := Scalar.muli v2 c8_i32_324
  let c128_i32_325 : BitVec 32 := 128#32
  let v383 : BitVec 32 := Scalar.muli v382 c128_i32_325
  ![2944, v383.toNat]
def k0_off45 (d0 : Dev nD) : Fin 2 → Nat :=
  let c3200_i32 : BitVec 32 := 3200#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_327 : BitVec 32 := 8#32
  let v387 : BitVec 32 := Scalar.muli v2 c8_i32_327
  let c128_i32_328 : BitVec 32 := 128#32
  let v388 : BitVec 32 := Scalar.muli v387 c128_i32_328
  ![3200, v388.toNat]
def k0_off46 (d0 : Dev nD) : Fin 2 → Nat :=
  let c3456_i32 : BitVec 32 := 3456#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_331 : BitVec 32 := 8#32
  let v392 : BitVec 32 := Scalar.muli v2 c8_i32_331
  let c128_i32_332 : BitVec 32 := 128#32
  let v393 : BitVec 32 := Scalar.muli v392 c128_i32_332
  ![3456, v393.toNat]
def k0_off47 (d0 : Dev nD) : Fin 2 → Nat :=
  let c3712_i32 : BitVec 32 := 3712#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_335 : BitVec 32 := 8#32
  let v397 : BitVec 32 := Scalar.muli v2 c8_i32_335
  let c128_i32_336 : BitVec 32 := 128#32
  let v398 : BitVec 32 := Scalar.muli v397 c128_i32_336
  ![3712, v398.toNat]
def k0_off48 (d0 : Dev nD) : Fin 2 → Nat :=
  let c3968_i32 : BitVec 32 := 3968#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_339 : BitVec 32 := 8#32
  let v402 : BitVec 32 := Scalar.muli v2 c8_i32_339
  let c128_i32_340 : BitVec 32 := 128#32
  let v403 : BitVec 32 := Scalar.muli v402 c128_i32_340
  ![3968, v403.toNat]
def k0_off49 (d0 : Dev nD) : Fin 2 → Nat :=
  let c192_i32_426 : BitVec 32 := 192#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_422 : BitVec 32 := 8#32
  let v487 : BitVec 32 := Scalar.muli v2 c8_i32_422
  let c128_i32_423 : BitVec 32 := 128#32
  let v488 : BitVec 32 := Scalar.muli v487 c128_i32_423
  ![192, v488.toNat]
def k0_off50 (d0 : Dev nD) : Fin 2 → Nat :=
  let c448_i32_431 : BitVec 32 := 448#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_427 : BitVec 32 := 8#32
  let v492 : BitVec 32 := Scalar.muli v2 c8_i32_427
  let c128_i32_428 : BitVec 32 := 128#32
  let v493 : BitVec 32 := Scalar.muli v492 c128_i32_428
  ![448, v493.toNat]
def k0_off51 (d0 : Dev nD) : Fin 2 → Nat :=
  let c704_i32_436 : BitVec 32 := 704#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_432 : BitVec 32 := 8#32
  let v497 : BitVec 32 := Scalar.muli v2 c8_i32_432
  let c128_i32_433 : BitVec 32 := 128#32
  let v498 : BitVec 32 := Scalar.muli v497 c128_i32_433
  ![704, v498.toNat]
def k0_off52 (d0 : Dev nD) : Fin 2 → Nat :=
  let c960_i32_440 : BitVec 32 := 960#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_437 : BitVec 32 := 8#32
  let v502 : BitVec 32 := Scalar.muli v2 c8_i32_437
  let c128_i32_438 : BitVec 32 := 128#32
  let v503 : BitVec 32 := Scalar.muli v502 c128_i32_438
  ![960, v503.toNat]
def k0_off53 (d0 : Dev nD) : Fin 2 → Nat :=
  let c1216_i32_445 : BitVec 32 := 1216#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_441 : BitVec 32 := 8#32
  let v507 : BitVec 32 := Scalar.muli v2 c8_i32_441
  let c128_i32_442 : BitVec 32 := 128#32
  let v508 : BitVec 32 := Scalar.muli v507 c128_i32_442
  ![1216, v508.toNat]
def k0_off54 (d0 : Dev nD) : Fin 2 → Nat :=
  let c1472_i32_450 : BitVec 32 := 1472#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_446 : BitVec 32 := 8#32
  let v512 : BitVec 32 := Scalar.muli v2 c8_i32_446
  let c128_i32_447 : BitVec 32 := 128#32
  let v513 : BitVec 32 := Scalar.muli v512 c128_i32_447
  ![1472, v513.toNat]
def k0_off55 (d0 : Dev nD) : Fin 2 → Nat :=
  let c1728_i32_455 : BitVec 32 := 1728#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_451 : BitVec 32 := 8#32
  let v517 : BitVec 32 := Scalar.muli v2 c8_i32_451
  let c128_i32_452 : BitVec 32 := 128#32
  let v518 : BitVec 32 := Scalar.muli v517 c128_i32_452
  ![1728, v518.toNat]
def k0_off56 (d0 : Dev nD) : Fin 2 → Nat :=
  let c1984_i32_459 : BitVec 32 := 1984#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_456 : BitVec 32 := 8#32
  let v522 : BitVec 32 := Scalar.muli v2 c8_i32_456
  let c128_i32_457 : BitVec 32 := 128#32
  let v523 : BitVec 32 := Scalar.muli v522 c128_i32_457
  ![1984, v523.toNat]
def k0_off57 (d0 : Dev nD) : Fin 2 → Nat :=
  let c2240_i32_464 : BitVec 32 := 2240#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_460 : BitVec 32 := 8#32
  let v527 : BitVec 32 := Scalar.muli v2 c8_i32_460
  let c128_i32_461 : BitVec 32 := 128#32
  let v528 : BitVec 32 := Scalar.muli v527 c128_i32_461
  ![2240, v528.toNat]
def k0_off58 (d0 : Dev nD) : Fin 2 → Nat :=
  let c2496_i32_469 : BitVec 32 := 2496#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_465 : BitVec 32 := 8#32
  let v532 : BitVec 32 := Scalar.muli v2 c8_i32_465
  let c128_i32_466 : BitVec 32 := 128#32
  let v533 : BitVec 32 := Scalar.muli v532 c128_i32_466
  ![2496, v533.toNat]
def k0_off59 (d0 : Dev nD) : Fin 2 → Nat :=
  let c2752_i32_474 : BitVec 32 := 2752#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_470 : BitVec 32 := 8#32
  let v537 : BitVec 32 := Scalar.muli v2 c8_i32_470
  let c128_i32_471 : BitVec 32 := 128#32
  let v538 : BitVec 32 := Scalar.muli v537 c128_i32_471
  ![2752, v538.toNat]
def k0_off60 (d0 : Dev nD) : Fin 2 → Nat :=
  let c3008_i32_478 : BitVec 32 := 3008#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_475 : BitVec 32 := 8#32
  let v542 : BitVec 32 := Scalar.muli v2 c8_i32_475
  let c128_i32_476 : BitVec 32 := 128#32
  let v543 : BitVec 32 := Scalar.muli v542 c128_i32_476
  ![3008, v543.toNat]
def k0_off61 (d0 : Dev nD) : Fin 2 → Nat :=
  let c3264_i32_483 : BitVec 32 := 3264#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_479 : BitVec 32 := 8#32
  let v547 : BitVec 32 := Scalar.muli v2 c8_i32_479
  let c128_i32_480 : BitVec 32 := 128#32
  let v548 : BitVec 32 := Scalar.muli v547 c128_i32_480
  ![3264, v548.toNat]
def k0_off62 (d0 : Dev nD) : Fin 2 → Nat :=
  let c3520_i32_488 : BitVec 32 := 3520#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_484 : BitVec 32 := 8#32
  let v552 : BitVec 32 := Scalar.muli v2 c8_i32_484
  let c128_i32_485 : BitVec 32 := 128#32
  let v553 : BitVec 32 := Scalar.muli v552 c128_i32_485
  ![3520, v553.toNat]
def k0_off63 (d0 : Dev nD) : Fin 2 → Nat :=
  let c3776_i32_493 : BitVec 32 := 3776#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_489 : BitVec 32 := 8#32
  let v557 : BitVec 32 := Scalar.muli v2 c8_i32_489
  let c128_i32_490 : BitVec 32 := 128#32
  let v558 : BitVec 32 := Scalar.muli v557 c128_i32_490
  ![3776, v558.toNat]
def k0_off64 (d0 : Dev nD) : Fin 2 → Nat :=
  let c4032_i32_497 : BitVec 32 := 4032#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_494 : BitVec 32 := 8#32
  let v562 : BitVec 32 := Scalar.muli v2 c8_i32_494
  let c128_i32_495 : BitVec 32 := 128#32
  let v563 : BitVec 32 := Scalar.muli v562 c128_i32_495
  ![4032, v563.toNat]
def k0_dev1 (d0 : Dev nD) : Nat :=
  let c0_i32_580 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_579 : BitVec 32 := 1#32
  let v648 : BitVec 32 := Scalar.muli v6 c1_i32_579
  let v649 : BitVec 32 := Scalar.addi c0_i32_580 v648
  v649.toNat
def k0_dev2 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_582 : BitVec 32 := 1#32
  let v650 : BitVec 32 := Scalar.muli v4 c1_i32_582
  let v651 : BitVec 32 := Scalar.addi c0_i32_583 v650
  v651.toNat
def k0_off65 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_586 : BitVec 32 := 256#32
  let v654 : BitVec 32 := Scalar.muli v2 c256_i32_586
  let v655 : Index := Scalar.indexCast v654
  let c0_587 : Index := 0#32
  ![v655.toNat, 0]
def k0_off66 (d0 : Dev nD) (c0_i32_588 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v659 : BitVec 32 := Scalar.subi v2 c0_i32_588
  let c4_i32_589 : BitVec 32 := 4#32
  let v660 : BitVec 32 := Scalar.addi v659 c4_i32_589
  let c4_i32_590 : BitVec 32 := 4#32
  let v661 : BitVec 32 := Scalar.remsi v660 c4_i32_590
  let c256_i32_592 : BitVec 32 := 256#32
  let v663 : BitVec 32 := Scalar.muli v661 c256_i32_592
  let c0_i32_597 : BitVec 32 := 0#32
  ![v663.toNat, 0]
def k0_dev3 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_595 : BitVec 32 := 1#32
  let v664 : BitVec 32 := Scalar.muli v4 c1_i32_595
  let v665 : BitVec 32 := Scalar.addi c0_i32_596 v664
  v665.toNat
def k0_dev4 (d0 : Dev nD) : Nat :=
  let c0_i32_1413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1412 : BitVec 32 := 1#32
  let v1692 : BitVec 32 := Scalar.muli v4 c1_i32_1412
  let v1693 : BitVec 32 := Scalar.addi c0_i32_1413 v1692
  v1693.toNat
def k0_off67 (d0 : Dev nD) (c3_i32_1416 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1700 : BitVec 32 := Scalar.addi v2 c3_i32_1416
  let c4_i32_1417 : BitVec 32 := 4#32
  let v1701 : BitVec 32 := Scalar.remsi v1700 c4_i32_1417
  let c256_i32_1418 : BitVec 32 := 256#32
  let v1702 : BitVec 32 := Scalar.muli v1701 c256_i32_1418
  let v1703 : Index := Scalar.indexCast v1702
  let c0_1419 : Index := 0#32
  ![v1703.toNat, 0]
def k0_off68 (d0 : Dev nD) (c0_i32_1848 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1847 : BitVec 32 := 3#32
  let v2327 : BitVec 32 := Scalar.addi v2 c3_i32_1847
  let v2328 : BitVec 32 := Scalar.subi v2327 c0_i32_1848
  let c4_i32_1849 : BitVec 32 := 4#32
  let v2329 : BitVec 32 := Scalar.addi v2328 c4_i32_1849
  let c4_i32_1850 : BitVec 32 := 4#32
  let v2330 : BitVec 32 := Scalar.remsi v2329 c4_i32_1850
  let c256_i32_1851 : BitVec 32 := 256#32
  let v2331 : BitVec 32 := Scalar.muli v2330 c256_i32_1851
  let c0_i32_1858 : BitVec 32 := 0#32
  ![v2331.toNat, 0]
def k0_dev5 (d0 : Dev nD) : Nat :=
  let c0_i32_1855 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1854 : BitVec 32 := 1#32
  let v2332 : BitVec 32 := Scalar.muli v4 c1_i32_1854
  let v2333 : BitVec 32 := Scalar.addi c0_i32_1855 v2332
  v2333.toNat
def k0_dev6 (d0 : Dev nD) : Nat :=
  let c0_i32_1873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1872 : BitVec 32 := 1#32
  let v2351 : BitVec 32 := Scalar.muli v4 c1_i32_1872
  let v2352 : BitVec 32 := Scalar.addi c0_i32_1873 v2351
  v2352.toNat
def k0_off69 (d0 : Dev nD) (c0_i32_2315 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_2314 : BitVec 32 := 2#32
  let v2992 : BitVec 32 := Scalar.addi v2 c2_i32_2314
  let v2993 : BitVec 32 := Scalar.subi v2992 c0_i32_2315
  let c4_i32_2316 : BitVec 32 := 4#32
  let v2994 : BitVec 32 := Scalar.addi v2993 c4_i32_2316
  let c4_i32_2317 : BitVec 32 := 4#32
  let v2995 : BitVec 32 := Scalar.remsi v2994 c4_i32_2317
  let c256_i32_2318 : BitVec 32 := 256#32
  let v2996 : BitVec 32 := Scalar.muli v2995 c256_i32_2318
  let v2997 : Index := Scalar.indexCast v2996
  let c0_2319 : Index := 0#32
  ![v2997.toNat, 0]
def k0_dev7 (d0 : Dev nD) : Nat :=
  let c0_i32_2332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2331 : BitVec 32 := 1#32
  let v3011 : BitVec 32 := Scalar.muli v4 c1_i32_2331
  let v3012 : BitVec 32 := Scalar.addi c0_i32_2332 v3011
  v3012.toNat
def k0_dev8 (d0 : Dev nD) : Nat :=
  let c0_i32_2798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_2797 : BitVec 32 := 1#32
  let v3677 : BitVec 32 := Scalar.muli v4 c1_i32_2797
  let v3678 : BitVec 32 := Scalar.addi c0_i32_2798 v3677
  v3678.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩
abbrev S1024x1024 : Shape := ⟨2, ![1024, 1024]⟩

abbrev nBuf : Space → Nat
  | .hbm => 138
  | .vmem => 0
  | .smem => 0
  | _ => 0

abbrev hbmTy0_0 (i : Nat) : BufTy := match i % 128 with
  | 0 => ⟨S1x1024x1024, .f32⟩
  | 1 => ⟨S1024x4096, .f32⟩
  | 2 => ⟨S1x4096x32x128, .f32⟩
  | 3 => ⟨S1x4096x32x128, .f32⟩
  | 4 => ⟨S4096x1024, .f32⟩
  | 5 => ⟨S1x1024x4096, .f32⟩
  | 6 => ⟨S1x1024x32x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S1024x4096, .i32⟩
  | 48 => ⟨S1024x4096, .i32⟩
  | 49 => ⟨S1024x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x4096, .i32⟩
  | 95 => ⟨S1024x4096, .i32⟩
  | 96 => ⟨S1024x4096, .i1⟩
  | 97 => ⟨S1024x4096, .i1⟩
  | 98 => ⟨S1x32x1024x4096, .f32⟩
  | 99 => ⟨S_, .f32⟩
  | 100 => ⟨S1x32x1024x4096, .f32⟩
  | 101 => ⟨S1x32x1024x4096, .f32⟩
  | 102 => ⟨S1x1x1024x4096, .i1⟩
  | 103 => ⟨S_, .f32⟩
  | 104 => ⟨S_, .f32⟩
  | 105 => ⟨S1x32x1024x4096, .i1⟩
  | 106 => ⟨S1x32x1024x4096, .f32⟩
  | 107 => ⟨S1x32x1024x4096, .f32⟩
  | 108 => ⟨S_, .f32⟩
  | 109 => ⟨S1x32x1024, .f32⟩
  | 110 => ⟨S1x32x1024x1, .f32⟩
  | 111 => ⟨S1x32x1024x4096, .f32⟩
  | 112 => ⟨S1x32x1024x4096, .f32⟩
  | 113 => ⟨S1x32x1024x4096, .f32⟩
  | 114 => ⟨S_, .i1⟩
  | 115 => ⟨S1024, .i1⟩
  | 116 => ⟨S1x1x1024x1, .i1⟩
  | 117 => ⟨S_, .f32⟩
  | 118 => ⟨S1x32x1024, .f32⟩
  | 119 => ⟨S1x32x1024x1, .f32⟩
  | 120 => ⟨S_, .f32⟩
  | 121 => ⟨S_, .f32⟩
  | 122 => ⟨S1x32x1024x1, .i1⟩
  | 123 => ⟨S1x32x1024x1, .f32⟩
  | 124 => ⟨S1x32x1024x1, .f32⟩
  | 125 => ⟨S1x32x1024x4096, .f32⟩
  | 126 => ⟨S1x32x1024x4096, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x32x1024x4096, .i1⟩
  | 3 => ⟨S1x32x1024x4096, .f32⟩
  | 4 => ⟨S1x32x1024x4096, .f32⟩
  | 5 => ⟨S1x32x128x1024, .f32⟩
  | 6 => ⟨S1x1024x32x128, .f32⟩
  | 7 => ⟨S1x1024x4096, .f32⟩
  | 8 => ⟨S1x1024x1024, .f32⟩
  | 9 => ⟨S1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩

abbrev nD : Nat := 1
abbrev τ : Topo := Topo.v7x

variable {F : FTy → Type} [FloatOps F]
-- ==== Proof.KernelIdeal.Flow.lean ====
/-
# The kernel's operations in order, grouped

The kernel is printed as one long sequence of operations. This module writes the same sequence as a short
program: the copies of the keys and the values are a loop over a copy's number, the attention of a chunk is a
loop over residue class and head, and the steps of the two rings are named. `body_eq` says that the printed
body is this program.
-/
module

public import proofs.«01_k».proof.Proof.Gen.KernelIdeal.Skeleton
public import proofs.«01_k».proof.Proof.Gen.KernelIdeal.Frame
public import Idealize.ShloMosaic.Lib.Pipeline.Regions

@[expose] public section

noncomputable section

namespace Cert.KernelIdeal.Att

open Idealize.ShloMosaic Idealize.SL.Sem
open Cert.KernelIdeal Cert.KernelIdeal.Gen

variable {F : FTy → Type} [FloatOps F]

/-- A device's program of this kernel. -/
abbrev P (F : FTy → Type) [FloatOps F] := Prog (TpuEff nD τ sig (Elt F) Λ₀ .tc) PUnit

/-! ## The buffers -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S256x1024 .f32 := Memref.whole cc0_stg3_0
abbrev xgM : Memref sig .tc .vmem S1024x1024 .f32 := Memref.whole cc0_scratch0
abbrev qM : Memref sig .tc .vmem S256x1024 .f32 := Memref.whole cc0_scratch1
abbrev ctxM : Memref sig .tc .vmem S256x1024 .f32 := Memref.whole cc0_scratch2
abbrev partM : Memref sig .tc .vmem S1024x1024 .f32 := Memref.whole cc0_scratch3
abbrev rsM : Memref sig .tc .vmem S768x1024 .f32 := Memref.whole cc0_scratch4
abbrev kpM : Memref sig .tc .vmem S4096x1024 .f32 := Memref.whole cc0_scratch5
abbrev vpM : Memref sig .tc .vmem S4096x1024 .f32 := Memref.whole cc0_scratch6
abbrev kM : Memref sig .tc .hbm S1x4096x32x128 .f32 := Memref.whole main_arg2
abbrev vM : Memref sig .tc .hbm S1x4096x32x128 .f32 := Memref.whole main_arg3

/-- Where the keys (`false`) and the values (`true`) lie, -/
def hbmM (b : Bool) : Memref sig .tc .hbm S1x4096x32x128 .f32 := bif b then vM else kM

/-- whole, -/
theorem hbmM_whole (b : Bool) : (hbmM b).IsWhole := by
  cases b <;> exact Memref.isWhole_whole _

/-- and the buffer their rows are gathered in. -/
def packM (b : Bool) : Memref sig .tc .vmem S4096x1024 .f32 := bif b then vpM else kpM

/-! ## The copies of the keys and the values

Copy `t` moves block `t % 16` of residue class `t / 32` of the keys (`t / 16` even) or of the values. -/

/-- Whether copy `t` moves values, -/
def kvB (t : ℕ) : Bool := Nat.beq (t / 16 % 2) 1
/-- the residue class it belongs to -/
def kvR (t : ℕ) : Fin 4 := ⟨t / 32 % 4, Nat.mod_lt _ (by decide)⟩
/-- and its block of 256 rows. -/
def kvK (t : ℕ) : Fin 16 := ⟨t % 16, Nat.mod_lt _ (by decide)⟩

theorem off1_col (d : Dev nD) : k0_off1 d 1 = 1024 * d.val := by rw [k0_off1_eq]; rfl
theorem off1_le (d : Dev nD) : k0_off1 d 1 + 1024 ≤ 4096 := by
  have h3 : d.val < 4 := d.isLt
  rw [off1_col]
  omega

theorem srcOff_inb (col : ℕ) (h : col + 1024 ≤ 4096) (r : Fin 4) (kb : Fin 16) :
    ∀ a, (![256 * kb.val + 64 * r.val, col] : Fin 2 → ℕ) a + S64x1024.size a ≤ S4096x4096.size a := by
  have h1 := kb.isLt
  have h2 := r.isLt
  intro a
  fin_cases a
  · show 256 * kb.val + 64 * r.val + 64 ≤ 4096
    omega
  · exact h

theorem dstOff_inb (r : Fin 4) (kb : Fin 16) :
    ∀ a, (![1024 * r.val + 64 * kb.val, 0] : Fin 2 → ℕ) a + S64x1024.size a ≤ S4096x1024.size a := by
  have h1 := kb.isLt
  have h2 := r.isLt
  intro a
  fin_cases a
  · show 1024 * r.val + 64 * kb.val + 64 ≤ 4096
    omega
  · show 0 + 1024 ≤ 1024
    omega

/-- The keys or the values as one matrix, a head's columns beside the next head's. -/
def hbm2 (b : Bool) : Memref sig .tc .hbm S4096x4096 .f32 :=
  (hbmM b).reshape S4096x4096 reshapes_S1x4096x32x128_S4096x4096.1 reshapes_S1x4096x32x128_S4096x4096.2
    (hbmM_whole _).contiguous

/-- 64 rows of block `kb` and residue class `r`, in the 1024 columns at `col`, -/
abbrev srcRect (col : ℕ) (h : col + 1024 ≤ 4096) (r : Fin 4) (kb : Fin 16) : Rect S4096x4096 :=
  Rect.unit (s := S4096x4096) ![256 * kb.val + 64 * r.val, col] S64x1024.size (srcOff_inb col h r kb)
/-- and where they are put. -/
abbrev dstRect (r : Fin 4) (kb : Fin 16) : Rect S4096x1024 :=
  Rect.unit (s := S4096x1024) ![1024 * r.val + 64 * kb.val, 0] S64x1024.size (dstOff_inb r kb)

/-- What copy `t` reads, -/
abbrev srcV (d : Dev nD) (t : ℕ) : Memref sig .tc .hbm S64x1024 .f32 :=
  (hbm2 (kvB t)).slice (srcRect (k0_off1 d 1) (off1_le d) (kvR t) (kvK t)) (fun _ => rfl)

/-- and what it writes. -/
abbrev dstV (t : ℕ) : Memref sig .tc .vmem S64x1024 .f32 :=
  (packM (kvB t)).slice (dstRect (kvR t) (kvK t)) (fun _ => rfl)

/-- Copy `t` is issued. -/
def issueK (d : Dev nD) (t : ℕ) (k : P F) : P F :=
  .op (.enqueueDma (srcV d t) (.here (dstV t)) (.dma cc0_scratch7.sem) (View.wordExact_bits rfl)
    (View.wordExact_bits rfl) ⟨Or.inl rfl, trivial⟩) fun _ => k

/-- One copy's units are waited for. -/
def kvWaitK (d : Dev nD) (t : ℕ) (k : P F) : P F :=
  .op (.waitDma2 cc0_scratch7.sem (srcV d t) (dstV t) (View.wordExact_bits rfl) (View.wordExact_bits rfl)) fun _ => k

/-- The last `n` copies are issued. -/
def issuesK (d : Dev nD) (n : ℕ) (k : P F) : P F :=
  Nat.rec (motive := fun _ => P F) k (fun m ih => issueK d (127 - m) ih) n

/-- The last `n` copies are waited for. -/
def kvWaitsK (d : Dev nD) (n : ℕ) (k : P F) : P F :=
  Nat.rec (motive := fun _ => P F) k (fun m ih => kvWaitK d (127 - m) ih) n

/-! ## The attention of one chunk of 256 query rows -/

def qOff (i : ℕ) : Fin 2 → ℕ := ![64 * (i / 8 % 4), 128 * (i % 8)]
def kpOff (i : ℕ) : Fin 2 → ℕ := ![1024 * (i / 8 % 4), 128 * (i % 8)]

theorem qOff_inb (i : ℕ) : ∀ a, qOff i a + S64x128.size a ≤ S256x1024.size a := by
  have h1 := Nat.mod_lt i (by decide : 0 < 8)
  have h2 := Nat.mod_lt (i / 8) (by decide : 0 < 4)
  intro a
  fin_cases a
  · show 64 * (i / 8 % 4) + 64 ≤ 256
    omega
  · show 128 * (i % 8) + 128 ≤ 1024
    omega

theorem kpOff_inb (i : ℕ) : ∀ a, kpOff i a + S1024x128.size a ≤ S4096x1024.size a := by
  have h1 := Nat.mod_lt i (by decide : 0 < 8)
  have h2 := Nat.mod_lt (i / 8) (by decide : 0 < 4)
  intro a
  fin_cases a
  · show 1024 * (i / 8 % 4) + 1024 ≤ 4096
    omega
  · show 128 * (i % 8) + 128 ≤ 1024
    omega

/-- A block of 64 rows and 128 columns: residue class `i / 8`, head `i % 8`, -/
abbrev qRect (i : ℕ) : Rect S256x1024 := Rect.unit (s := S256x1024) (qOff i) S64x128.size (qOff_inb i)
/-- and the keys (values) that go with it. -/
abbrev kpRect (i : ℕ) : Rect S4096x1024 := Rect.unit (s := S4096x1024) (kpOff i) S1024x128.size (kpOff_inb i)

/-- All of a chunk-sized buffer, -/
abbrev wRect : Rect S256x1024 := Rect.unit (s := S256x1024) ![0, 0] S256x1024.size inb_S256x1024_S256x1024_0_0
/-- and all of a weight. -/
abbrev sRect : Rect S1024x1024 := Rect.unit (s := S1024x1024) ![0, 0] S1024x1024.size inb_S1024x1024_S1024x1024_0_0
/-- A chunk of 256 rows of the gathered rows. -/
abbrev cRect (o : Fin 2 → ℕ) (h : ∀ a, o a + S256x1024.size a ≤ S1024x1024.size a) : Rect S1024x1024 :=
  Rect.unit (s := S1024x1024) o S256x1024.size h

/-- The attention of residue class `i / 8` and head `i % 8`. -/
def headK (i : ℕ) (k : P F) : P F :=
  .op (.load qM (qRect i).toLoadRect (View.loadsAt_vmem h_S64x128)) fun v0 =>
  .op (.load kpM (kpRect i).toLoadRect (View.loadsAt_vmem h_S1024x128)) fun v1 =>
  .op (.load vpM (kpRect i).toLoadRect (View.loadsAt_vmem h_S1024x128)) fun v2 =>
  .op (.load ctxM (qRect i).toLoadRect (View.loadsAt_vmem h_S64x128)) fun _ =>
  .op (.store ctxM (qRect i) (k0_pay5 v0 v1 v2) Finset.univ (View.stores_vmem_bits_univ h_S64x128 rfl) (.inl rfl)) fun _ =>
  k

/-- The last `n` of the 32. -/
def headsK (n : ℕ) (k : P F) : P F :=
  Nat.rec (motive := fun _ => P F) k (fun m ih => headK (31 - m) ih) n

/-- The chunk at row `o`: its queries, the attention, its rows of the partial product. -/
def computeK (o : Fin 2 → ℕ) (h : ∀ a, o a + S256x1024.size a ≤ S1024x1024.size a) (k : P F) : P F :=
  .op (.load xgM (cRect o h).toLoadRect (View.loadsAt_vmem h_S256x1024)) fun v0 =>
  .op (.load wqM sRect.toLoadRect (View.loadsAt_vmem h_S1024x1024)) fun v1 =>
  .op (.load qM wRect.toLoadRect (View.loadsAt_vmem h_S256x1024)) fun _ =>
  .op (.store qM wRect (k0_pay2 v0 v1) Finset.univ (View.stores_vmem_bits_univ h_S256x1024 rfl) (.inl rfl)) fun _ =>
  headsK 32 <|
  .op (.load ctxM wRect.toLoadRect (View.loadsAt_vmem h_S256x1024)) fun v2 =>
  .op (.load woM sRect.toLoadRect (View.loadsAt_vmem h_S1024x1024)) fun v3 =>
  .op (.load partM (cRect o h).toLoadRect (View.loadsAt_vmem h_S256x1024)) fun _ =>
  .op (.store partM (cRect o h) (k0_pay52 v2 v3) Finset.univ (View.stores_vmem_bits_univ h_S256x1024 rfl) (.inl rfl)) fun _ =>
  k

/-! ## The steps of the two rings -/

/-- Semaphore `h` of an array of three. -/
def semN (a : DmaSems sig S3) (h : Fin 3) : DmaSem sig :=
  match h with
  | 0 => ((a.slice (Rect.unit (s := S3) ![0] S1.size inb_S3_S1_0)).squeeze S_ squeezes_S1_S_).sem
  | 1 => ((a.slice (Rect.unit (s := S3) ![1] S1.size inb_S3_S1_1)).squeeze S_ squeezes_S1_S_).sem
  | 2 => ((a.slice (Rect.unit (s := S3) ![2] S1.size inb_S3_S1_2)).squeeze S_ squeezes_S1_S_).sem

/-- 256 of the gathered rows, -/
abbrev xgC (o : Fin 2 → ℕ) (ho : ∀ a, o a + S256x1024.size a ≤ S1024x1024.size a) : Memref sig .tc .vmem S256x1024 .f32 :=
  xgM.slice (cRect o ho) (fun _ => rfl)
/-- 256 rows of the partial products, -/
abbrev partC (o : Fin 2 → ℕ) (ho : ∀ a, o a + S256x1024.size a ≤ S1024x1024.size a) : Memref sig .tc .vmem S256x1024 .f32 :=
  partM.slice (cRect o ho) (fun _ => rfl)

theorem slot_inb (s : Fin 3) : ∀ a, (![256 * s.val, 0] : Fin 2 → ℕ) a + S256x1024.size a ≤ S768x1024.size a := by
  have h := s.isLt
  intro a
  fin_cases a
  · show 256 * s.val + 256 ≤ 768
    omega
  · show 0 + 1024 ≤ 1024
    omega

/-- where they land. -/
abbrev slotRect (s : Fin 3) : Rect S768x1024 := Rect.unit (s := S768x1024) ![256 * s.val, 0] S256x1024.size (slot_inb s)
abbrev slotV (s : Fin 3) : Memref sig .tc .vmem S256x1024 .f32 := rsM.slice (slotRect s) (fun _ => rfl)

/-- The device the steps send to: the next on the ring, -/
def nxtK (d : Dev nD) : Dev nD := ⟨k0_dev3 d, k0_dev3_lt d⟩
/-- and the one before it. -/
def prvK (d : Dev nD) : Dev nD := ⟨k0_dev1 d, k0_dev1_lt d⟩

/-- Step `h` of the first ring: the rows at `o` sent to device `n`, -/
def agSendP (n : Dev nD) (o : Fin 2 → ℕ) (ho : ∀ a, o a + S256x1024.size a ≤ S1024x1024.size a) (h : Fin 3) (k : P F) : P F :=
  .op (.enqueueDma (xgC o ho) (.remote (Dev.tc n) (xgC o ho) (.dma (semN cc0_scratch8 h))) (.dma (semN cc0_scratch9 h))
    (View.wordExact_bits rfl) (View.wordExact_bits rfl) ⟨⟨rfl, Or.inl rfl⟩, trivial⟩) fun _ => k

/-- the rows of the device before awaited, -/
def agRecvP (o : Fin 2 → ℕ) (ho : ∀ a, o a + S256x1024.size a ≤ S1024x1024.size a) (h : Fin 3) (k : P F) : P F :=
  .op (.waitDma2 (semN cc0_scratch9 h) (xgC o ho) (xgC o ho) (View.wordExact_bits rfl) (View.wordExact_bits rfl)) fun _ => k

/-- the sent rows' end awaited. -/
def agDoneP (o : Fin 2 → ℕ) (ho : ∀ a, o a + S256x1024.size a ≤ S1024x1024.size a) (h : Fin 3) (k : P F) : P F :=
  .op (.waitDma2 (semN cc0_scratch8 h) (xgC o ho) (xgC o ho) (View.wordExact_bits rfl) (View.wordExact_bits rfl)) fun _ => k

/-- Step `s` of the second ring: partial sums at `o` sent to device `n`, -/
def rsSendP (n : Dev nD) (o : Fin 2 → ℕ) (ho : ∀ a, o a + S256x1024.size a ≤ S1024x1024.size a) (s : Fin 3) (k : P F) : P F :=
  .op (.enqueueDma (partC o ho) (.remote (Dev.tc n) (slotV s) (.dma (semN cc0_scratch10 s))) (.dma (semN cc0_scratch11 s))
    (View.wordExact_bits rfl) (View.wordExact_bits rfl) ⟨⟨rfl, Or.inl rfl⟩, trivial⟩) fun _ => k

/-- those of the device before awaited, -/
def rsRecvP (o : Fin 2 → ℕ) (ho : ∀ a, o a + S256x1024.size a ≤ S1024x1024.size a) (s : Fin 3) (k : P F) : P F :=
  .op (.waitDma2 (semN cc0_scratch11 s) (partC o ho) (slotV s) (View.wordExact_bits rfl) (View.wordExact_bits rfl)) fun _ => k

/-- added to the device's own at `o`, -/
def accP (o : Fin 2 → ℕ) (ho : ∀ a, o a + S256x1024.size a ≤ S1024x1024.size a) (s : Fin 3) (k : P F) : P F :=
  .op (.load partM (cRect o ho).toLoadRect (View.loadsAt_vmem h_S256x1024)) fun v0 =>
  .op (.load rsM (slotRect s).toLoadRect (View.loadsAt_vmem h_S256x1024)) fun v1 =>
  .op (.load partM (cRect o ho).toLoadRect (View.loadsAt_vmem h_S256x1024)) fun _ =>
  .op (.store partM (cRect o ho) (k0_pay155 v0 v1) Finset.univ
    (View.stores_vmem_bits_univ h_S256x1024 rfl) (.inl rfl)) fun _ => k

/-- the sent sums' end awaited. -/
def rsDoneP (o : Fin 2 → ℕ) (ho : ∀ a, o a + S256x1024.size a ≤ S1024x1024.size a) (s : Fin 3) (k : P F) : P F :=
  .op (.waitDma2 (semN cc0_scratch10 s) (slotV s) (partC o ho) (View.wordExact_bits rfl) (View.wordExact_bits rfl)) fun _ => k

/-! The same at the offsets the kernel computes. -/

def agSendK (d : Dev nD) (h : Fin 3) : P F → P F := agSendP (nxtK d) (k0_off66 d (BitVec.ofNat 32 h.val)) (k0_off66_inb d h) h
def agRecvK (d : Dev nD) (h : Fin 3) : P F → P F := agRecvP (k0_off66 d (BitVec.ofNat 32 h.val)) (k0_off66_inb d h) h
def agDoneK (d : Dev nD) (h : Fin 3) : P F → P F := agDoneP (k0_off66 d (BitVec.ofNat 32 h.val)) (k0_off66_inb d h) h
def rsSendK (d : Dev nD) (s : Fin 3) : P F → P F := rsSendP (nxtK d) (k0_off68 d (BitVec.ofNat 32 s.val)) (k0_off68_inb d s) s
def rsRecvK (d : Dev nD) (s : Fin 3) : P F → P F := rsRecvP (k0_off68 d (BitVec.ofNat 32 s.val)) (k0_off68_inb d s) s
def accK (d : Dev nD) (s : Fin 3) : P F → P F := accP (k0_off69 d (BitVec.ofNat 32 s.val)) (k0_off69_inb d s) s
def rsDoneK (d : Dev nD) (s : Fin 3) : P F → P F := rsDoneP (k0_off68 d (BitVec.ofNat 32 s.val)) (k0_off68_inb d s) s

/-! ## The whole body -/

/-- The runtime's barrier semaphore. -/
abbrev barS : Sem sig := (SemArray.scalar (sig.barrier 0 rfl) : Sems sig S_).sem

abbrev x3Rect : Rect S1x256x1024 :=
  Rect.unit (s := S1x256x1024) ![0, 0, 0] S1x256x1024.size inb_S1x256x1024_S1x256x1024_0_0_0

/-- The device tells both its neighbours that it has started and waits for both. -/
def barrierK (d : Dev nD) (k : P F) : P F :=
  .op (.semSignal (Dev.tc (prvK d)) barS 1) fun _ =>
  .op (.semSignal (Dev.tc (nxtK d)) barS 1) fun _ =>
  .op (.semWait barS 2) fun _ => k

/-- Its rows are put at their place `o` among the gathered ones. -/
def placeP (o : Fin 2 → ℕ) (ho : ∀ a, o a + S256x1024.size a ≤ S1024x1024.size a) (k : P F) : P F :=
  .op (.load xM x3Rect.toLoadRect (View.loadsAt_vmem h_S1x256x1024)) fun v =>
  .op (.load xgM (cRect o ho).toLoadRect (View.loadsAt_vmem h_S256x1024)) fun _ =>
  .op (.store xgM (cRect o ho) (k0_pay1 v) Finset.univ (View.stores_vmem_bits_univ h_S256x1024 rfl) (.inl rfl)) fun _ => k

/-- Its rows of the result, at `o`, are put out. -/
def outP (o : Fin 2 → ℕ) (ho : ∀ a, o a + S256x1024.size a ≤ S1024x1024.size a) (k : P F) : P F :=
  .op (.load partM (cRect o ho).toLoadRect (View.loadsAt_vmem h_S256x1024)) fun v =>
  .op (.load outM wRect.toLoadRect (View.loadsAt_vmem h_S256x1024)) fun _ =>
  .op (.store outM wRect v Finset.univ (View.stores_vmem_bits_univ h_S256x1024 rfl) (.inl rfl)) fun _ => k

def placeK (d : Dev nD) : P F → P F := placeP (k0_off65 d) (k0_off65_inb d)
def outK (d : Dev nD) : P F → P F := outP (k0_off65 d) (k0_off65_inb d)

/-- After the copies: the four chunks and the two rings. -/
def mainK (d : Dev nD) (k : P F) : P F :=
  computeK (k0_off65 d) (k0_off65_inb d) <|
  agRecvK d 0 <| agSendK d 1 <|
  computeK (k0_off67 d 3#32) (k0_off67_inb d 2) <|
  rsSendK d 0 <| agRecvK d 1 <| agSendK d 2 <|
  computeK (k0_off67 d 2#32) (k0_off67_inb d 1) <|
  rsRecvK d 0 <| accK d 0 <| rsSendK d 1 <| agRecvK d 2 <|
  computeK (k0_off67 d 1#32) (k0_off67_inb d 0) <|
  rsRecvK d 1 <| accK d 1 <| rsSendK d 2 <|
  rsRecvK d 2 <| accK d 2 <| outK d <|
  agDoneK d 0 <| agDoneK d 1 <| agDoneK d 2 <|
  rsDoneK d 0 <| rsDoneK d 1 <| rsDoneK d 2 <| k

/-- The kernel on the device it runs on. -/
def flow : P F :=
  .op .deviceId fun d =>
  issuesK d 128 <| barrierK d <| placeK d <| agSendK d 0 <| kvWaitsK d 128 <| mainK d <| .ret ⟨⟩

set_option maxRecDepth 1000000 in
/-- The printed body is this program. -/
theorem body_eq :
    cc0__body (F := F) xM (Memref.isWhole_whole _) wqM (Memref.isWhole_whole _) kM (Memref.isWhole_whole _) vM
        (Memref.isWhole_whole _) woM (Memref.isWhole_whole _) outM (Memref.isWhole_whole _) xgM (Memref.isWhole_whole _) qM
        (Memref.isWhole_whole _) ctxM (Memref.isWhole_whole _) partM (Memref.isWhole_whole _) rsM (Memref.isWhole_whole _)
        kpM (Memref.isWhole_whole _) vpM (Memref.isWhole_whole _) cc0_scratch7 cc0_scratch8 cc0_scratch9 cc0_scratch10
        cc0_scratch11 = flow := by
  chain_rfl

end Cert.KernelIdeal.Att
-- ==== Proof.KernelIdeal.Base.lean ====
/-
# Holding a buffer's elements, and the rules of the loads and the stores

The assertions of this proof say which elements of a buffer a device holds and what it reads there
(`owns`). This module states the loads and the stores on such holdings, and how a buffer is taken apart
into rectangles and put together again.
-/
module

public import proofs.«01_k».proof.Proof.KernelIdeal.Flow
public import proofs.«01_k».proof.Proof.Gen.KernelIdeal.Launch
public import Idealize.ShloMosaic.Lib.Pipeline.Launch
public import Idealize.ShloMosaic.Lib.Pipeline.Kit
public import Idealize.ShloMosaic.Lib.Batch
public import Idealize.ShloMosaic.Lib.Tactic

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the two rings' rounds, the copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rings' rounds: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The copies' counters: the right half. -/
abbrev EC : UEmb Counters (MT nD τ sig Unit (Elt F) ℕ UU ℕ) := countersEmb

abbrev 𝒱₀ : Variants := Variants.none

/-- What device `c` needs to run the program `p` to a state in which `Q` holds. -/
abbrev wpD (c : Dev nD) (p : P F) (Q : PUnit.{1} → sProp 𝕄) : sProp 𝕄 :=
  wp frame (wpE (defs₀ (F := F)) 𝒱₀ (c : Thread nD τ) none) Set.univ p Q

/-- Device `c` holds the elements of the memref `M` at the share `q` and reads `X` there. -/
abbrev own (c : Dev nD) {sp : Space} {sh : Shape} {e : EltTy} (M : Memref sig .tc sp sh e) (q : PosShare TreeShare)
    (X : sh.Idx → Elt F e) : sProp 𝕄 :=
  owns (Ix := Unit) (Name := ℕ) (U := UU) (Lvl := ℕ) (c : Thread nD τ) M q X

/-! ## Loads and stores -/

section Rules

variable (c : Dev nD) {S : Shape} {e : EltTy} (M : Memref sig .tc .vmem S e) (r : Rect S) (hr : ∀ a, r.stride a = 1)

/-- Loading a rectangle of a memref held, -/
theorem wp_loadSub (q : PosShare TreeShare) (X : S.Idx → Elt F e) {hl : M.view.LoadsAt r.toLoadRect}
    {k : (r.toLoadRect.shape.Idx → Elt F e) → P F} {Q : PUnit.{1} → sProp 𝕄} :
    own c M q X ⊢ iprop((own c M q X -∗ wpD c (k (fun j => X (r.emb j))) Q) -∗ wpD c (.op (.load M r.toLoadRect hl) k) Q) := by
  unfold own owns
  have hS : M.view.setOn r.toLoadRect.set ⊆ M.view.set := View.setOn_subset_set _ _
  iintro ⟨%f, %hf, H⟩ Hk
  iapply (wp_load 𝒱₀ (c : Thread nD τ) none Set.univ (m := M) hS) $$ H
  iintro H
  rw [show M.view.readAt (Elt F) r.toLoadRect f = fun j => X (r.emb j) from by rw [← hf]; rfl]
  iapply Hk
  iexists f
  isplitr; · ipureintro; exact hf
  iexact H

/-- and one held as a memref of its own; -/
theorem wp_loadSlice (q : PosShare TreeShare) (X : r.shape.Idx → Elt F e) {hl : M.view.LoadsAt r.toLoadRect}
    {k : (r.toLoadRect.shape.Idx → Elt F e) → P F} {Q : PUnit.{1} → sProp 𝕄} :
    own c (M.slice r hr) q X ⊢ iprop((own c (M.slice r hr) q X -∗ wpD c (k X) Q) -∗ wpD c (.op (.load M r.toLoadRect hl) k) Q) := by
  unfold own owns
  iintro ⟨%f, %hf, H⟩ Hk
  iapply (wp_load_rect 𝒱₀ (c : Thread nD τ) none Set.univ (m := M) (r := r) (S := (M.slice r hr).view.set) (f := f)
    (Finset.Subset.refl _)) $$ H
  iintro H
  rw [show (M.access r).read (Elt F) f = X from hf]
  iapply Hk
  iexists f
  isplitr; · ipureintro; exact hf
  iexact H

/-- storing into a rectangle of a memref held, -/
theorem wp_storeSub (X : S.Idx → Elt F e) {w : r.shape.Idx → Elt F e} {hx : (M.access r).Stores Finset.univ}
    {hm : Finset.univ = Finset.univ ∨ ∀ a, r.stride a = 1} {k : PUnit → P F} {Q : PUnit.{1} → sProp 𝕄} :
    own c M fullShare X
      ⊢ iprop((own c M fullShare (r.overlay X w) -∗ wpD c (k ⟨⟩) Q) -∗ wpD c (.op (.store M r w Finset.univ hx hm) k) Q) := by
  unfold own owns
  iintro ⟨%f, %hf, H⟩ Hk
  iapply (wp_store 𝒱₀ (c : Thread nD τ) none Set.univ (m := M) (r := r) (Mk := Finset.univ) (S := M.view.set) (f := f)
    (M.view.set_slice_subset r)) $$ H
  iintro H
  iapply Hk
  iexists _
  isplitr
  · ipureintro
    show M.view.read (Elt F) ((M.view.slice r).write (Elt F) f w Finset.univ) = r.overlay X w
    funext y
    by_cases hy : y ∈ Finset.univ.map r.emb
    · obtain ⟨x, -, rfl⟩ := Finset.mem_map.mp hy
      rw [View.read_slice_write_emb _ _ _ (Finset.mem_univ _), Rect.overlay_emb]
    · rw [View.read_slice_write_of_not_mem _ _ _ _ hy, Rect.overlay_of_not_mem _ _ _ (by rwa [Rect.map_emb_univ] at hy), hf]
  iexact H

/-- and into one held as a memref of its own. -/
theorem wp_storeSlice (X : r.shape.Idx → Elt F e) {w : r.shape.Idx → Elt F e} {hx : (M.access r).Stores Finset.univ}
    {hm : Finset.univ = Finset.univ ∨ ∀ a, r.stride a = 1} {k : PUnit → P F} {Q : PUnit.{1} → sProp 𝕄} :
    own c (M.slice r hr) fullShare X
      ⊢ iprop((own c (M.slice r hr) fullShare w -∗ wpD c (k ⟨⟩) Q) -∗ wpD c (.op (.store M r w Finset.univ hx hm) k) Q) := by
  unfold own owns
  iintro ⟨%f, %hf, H⟩ Hk
  iapply (wp_store 𝒱₀ (c : Thread nD τ) none Set.univ (m := M) (r := r) (Mk := Finset.univ) (S := (M.slice r hr).view.set) (f := f)
    (Finset.Subset.refl _)) $$ H
  iintro H
  iapply Hk
  iexists ((M.slice r hr).view.write (Elt F) f w Finset.univ)
  isplitr
  · ipureintro
    exact View.read_write_univ _ _
  iexact H

end Rules

/-! ## Holdings -/

section Holdings

variable (c : Dev nD) {sp : Space} {S : Shape} {e : EltTy} (M : Memref sig .tc sp S e)

/-- Holding what contents `g` show is holding the elements at `g`. -/
theorem own_read_eq (q : PosShare TreeShare) (g : M.view.ty.Contents (Elt F)) :
    (own c M q (M.view.read (Elt F) g) : sProp 𝕄) = (M.view.loc (c : Thread nD τ) ↦[M.view.set]{q} g) := by
  refine BI.equiv_iff.mp ⟨?_, owns_intro (c : Thread nD τ) M q g⟩
  show iprop(∃ f, ⌜M.view.read (Elt F) f = M.view.read (Elt F) g⌝ ∗ (M.view.loc (c : Thread nD τ) ↦[M.view.set]{q} f))
    ⊢ (M.view.loc (c : Thread nD τ) ↦[M.view.set]{q} g)
  iintro ⟨%f, %hf, H⟩
  have he : (M.view.loc (c : Thread nD τ) ↦[M.view.set]{q} f : sProp 𝕄) = (M.view.loc (c : Thread nD τ) ↦[M.view.set]{q} g) :=
    pointsTo_congr fun i hi => by
      obtain ⟨x, -, rfl⟩ := Finset.mem_map.mp hi
      have := congrFun hf x
      simp only [View.read] at this
      exact (cast_inj _).mp this
  rw [← he]
  iexact H

/-- A memref held whole is held half and half, -/
theorem own_halves (X : S.Idx → Elt F e) :
    (own c M fullShare X : sProp 𝕄) ⊢ iprop(own c M fullShare.left X ∗ own c M fullShare.right X) := by
  unfold own owns
  iintro ⟨%f, %hf, H⟩
  ihave H' := (pointsTo_share (PosShare.mem_left_op_right fullShare)).1 $$ H
  icases H' with ⟨H1, H2⟩
  isplitl [H1]
  · iexists f
    isplitr; · ipureintro; exact hf
    iexact H1
  · iexists f
    isplitr; · ipureintro; exact hf
    iexact H2

/-- and back. -/
theorem own_of_halves (X Y : S.Idx → Elt F e) :
    iprop(own c M fullShare.left X ∗ own c M fullShare.right Y) ⊢ (own c M fullShare X : sProp 𝕄) := by
  unfold own owns
  iintro ⟨⟨%f, %hf, H1⟩, ⟨%g, %hg, H2⟩⟩
  ihave %hag := (pointsTo_agree (ℓ := M.view.loc (c : Thread nD τ)) (I := M.view.set) (J := M.view.set) (f := f) (g := g)) $$ [H1 H2]
  · isplitl [H1] <;> iassumption
  have he : (M.view.loc (c : Thread nD τ) ↦[M.view.set]{fullShare.right} g : sProp 𝕄)
      = (M.view.loc (c : Thread nD τ) ↦[M.view.set]{fullShare.right} f) :=
    pointsTo_congr fun i hi => ((hag i (Finset.mem_inter.mpr ⟨hi, hi⟩)).1).symm
  ihave H2' := (Entails.of_eq he) $$ H2
  iexists f
  isplitr; · ipureintro; exact hf
  iapply (pointsTo_share (PosShare.mem_left_op_right fullShare)).2
  isplitl [H1] <;> iassumption

/-- A buffer held at some contents. -/
theorem own_whole_ex (b : Ref sig .tc) :
    iprop(∃ f : Buf (Elt F) ((c : Thread nD τ).loc b), ((c : Thread nD τ).loc b) ↦{fullShare} f)
      ⊢ (iprop(∃ X, own c (Memref.whole b) fullShare X) : sProp 𝕄) := by
  iintro ⟨%f, H⟩
  iexists f
  iapply (Entails.of_eq (owns_whole (c : Thread nD τ) b fullShare f).symm) $$ H

theorem own_whole_out (b : Ref sig .tc) (X : b.ty.Contents (Elt F)) :
    (own c (Memref.whole b) fullShare X : sProp 𝕄)
      ⊢ iprop(∃ f : Buf (Elt F) ((c : Thread nD τ).loc b), ((c : Thread nD τ).loc b) ↦{fullShare} f) := by
  iintro H
  iexists X
  iapply (Entails.of_eq (owns_whole (c : Thread nD τ) b fullShare X)) $$ H

end Holdings

/-! ## Values given rectangle by rectangle -/

/-- Values on disjoint rectangles are the parts of one family. -/
theorem glue_exists {S : Shape} {α : Type} [Nonempty α] {T : Type} (r : T → Rect S)
    (hd : ∀ t t', t ≠ t' → Disjoint (r t).set (r t').set) (G : ∀ t, (r t).shape.Idx → α) :
    ∃ X : S.Idx → α, ∀ t x, X ((r t).emb x) = G t x := by
  classical
  refine ⟨fun i => if h : ∃ t, ∃ x, (r t).emb x = i then G h.choose h.choose_spec.choose else Classical.arbitrary α, fun t x => ?_⟩
  have h : ∃ t', ∃ x', (r t').emb x' = (r t).emb x := ⟨t, x, rfl⟩
  have key : ∀ (t' : T) (x' : (r t').shape.Idx), (r t').emb x' = (r t).emb x → G t' x' = G t x := by
    intro t' x' hx
    by_cases ht : t' = t
    · subst ht
      rw [(r t').emb.injective hx]
    · exfalso
      have h1 : (r t').emb x' ∈ (r t').set := by rw [← Rect.map_emb_univ]; exact Finset.mem_map_of_mem _ (Finset.mem_univ _)
      have h2 : (r t').emb x' ∈ (r t).set := by rw [hx, ← Rect.map_emb_univ]; exact Finset.mem_map_of_mem _ (Finset.mem_univ _)
      exact Finset.disjoint_left.mp (hd t' t ht) h1 h2
  show (if h : ∃ t', ∃ x', (r t').emb x' = (r t).emb x then G h.choose h.choose_spec.choose else Classical.arbitrary α) = G t x
  rw [dif_pos h]
  exact key _ _ h.choose_spec.choose_spec

/-- Rectangles held, whatever they hold, are the memref held. -/
theorem own_of_rects_ex (c : Dev nD) {sp : Space} {S : Shape} {e : EltTy} (M : Memref sig .tc sp S e) (q : PosShare TreeShare)
    {T : Type} [Fintype T] [DecidableEq T] (r : T → Rect S) (hr : ∀ t a, (r t).stride a = 1)
    (hd : ∀ t t', t ≠ t' → Disjoint (r t).set (r t').set)
    (hcov : (Finset.univ : Finset T).biUnion (fun t => (r t).set) = Finset.univ) (G : ∀ t, (r t).shape.Idx → Elt F e) :
    (BI.bigSep Finset.univ (fun t => own c (M.slice (r t) (hr t)) q (G t)) : sProp 𝕄) ⊢ iprop(∃ X, own c M q X) := by
  obtain ⟨X, hX⟩ := glue_exists r hd G
  have hG : G = fun t x => X ((r t).emb x) := funext fun t => funext fun x => (hX t x).symm
  subst hG
  iintro H
  iexists X
  iapply (owns_of_rects (c : Thread nD τ) M q r hr hd hcov X) $$ H

end Cert.KernelIdeal.Att

end
-- ==== Proof.KernelIdeal.Compute.lean ====
/-
# The attention of one chunk

A device computes the queries of 256 rows, then for each of the four residue classes and eight heads the
attention of 64 of those rows over the 1024 gathered keys of the class, and multiplies the 1024 columns it
has then by its rows of the output weight. `attV` is the value, `wp_compute` the run.
-/
module

public import proofs.«01_k».proof.Proof.KernelIdeal.Base
public import Idealize.ShloMosaic.Lib.ValueIdxCore

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The values -/

/-- The part of the queries (of the context) of residue class `i / 8` and head `i % 8`, -/
def qPart (Q : Vec F S256x1024 .f32) (i : ℕ) : Vec F S64x128 .f32 := fun j => Q ((qRect i).emb j)
/-- and of the gathered keys or values. -/
def kpPart (K : Vec F S4096x1024 .f32) (i : ℕ) : Vec F S1024x128 .f32 := fun j => K ((kpRect i).emb j)

/-- One head's attention of one residue class, -/
def headV (Q : Vec F S256x1024 .f32) (K V : Vec F S4096x1024 .f32) (i : ℕ) : Vec F S64x128 .f32 :=
  k0_pay5 (qPart Q i) (kpPart K i) (kpPart V i)

/-- where element `y` of the context lies in its part, -/
def inPart (y : S256x1024.Idx) : S64x128.Idx :=
  ValueIdx.ix2 ⟨(y 0).val % 64, Nat.mod_lt _ (by decide)⟩ ⟨(y 1).val % 128, Nat.mod_lt _ (by decide)⟩
/-- the part it lies in, -/
def partOf (y : S256x1024.Idx) : ℕ := 8 * ((y 0).val / 64) + (y 1).val / 128

/-- all heads' and classes' attention, -/
def ctxV (Q : Vec F S256x1024 .f32) (K V : Vec F S4096x1024 .f32) : Vec F S256x1024 .f32 :=
  fun y => headV Q K V (partOf y) (inPart y)

/-- and the chunk's rows of the device's partial product. -/
def attV (X : Vec F S256x1024 .f32) (WQ WO : Vec F S1024x1024 .f32) (K V : Vec F S4096x1024 .f32) : Vec F S256x1024 .f32 :=
  k0_pay52 (ctxV (k0_pay2 X WQ) K V) WO

theorem partOf_lt (y : S256x1024.Idx) : partOf y < 32 := by
  have h0 : (y 0).val < 256 := (y 0).isLt
  have h1 : (y 1).val < 1024 := (y 1).isLt
  unfold partOf
  omega

/-- Every element is its part's element. -/
theorem emb_inPart (y : S256x1024.Idx) : (qRect (partOf y)).emb (inPart y) = y := by
  have h0 : (y 0).val < 256 := (y 0).isLt
  have h1 : (y 1).val < 1024 := (y 1).isLt
  have h2 : (8 * ((y 0).val / 64) + (y 1).val / 128) / 8 % 4 = (y 0).val / 64 := by omega
  have h3 : (8 * ((y 0).val / 64) + (y 1).val / 128) % 8 = (y 1).val / 128 := by omega
  funext a
  apply Fin.ext
  fin_cases a
  · show 64 * (partOf y / 8 % 4) + 1 * ((y 0).val % 64) = (y 0).val
    unfold partOf
    rw [h2]
    omega
  · show 128 * (partOf y % 8) + 1 * ((y 1).val % 128) = (y 1).val
    unfold partOf
    rw [h3]
    omega

/-- Different parts have no element in common. -/
theorem qRect_disjoint (i j : ℕ) (hi : i < 32) (hj : j < 32) (h : i ≠ j) : Disjoint (qRect i).set (qRect j).set := by
  by_cases h8 : i % 8 = j % 8
  · exact Rect.unit_disjoint (s := S256x1024) (0 : Fin 2) (by
      show 64 * (i / 8 % 4) + 64 ≤ 64 * (j / 8 % 4) ∨ 64 * (j / 8 % 4) + 64 ≤ 64 * (i / 8 % 4)
      omega)
  · exact Rect.unit_disjoint (s := S256x1024) (1 : Fin 2) (by
      show 128 * (i % 8) + 128 ≤ 128 * (j % 8) ∨ 128 * (j % 8) + 128 ≤ 128 * (i % 8)
      omega)

theorem not_mem_qRect (i j : ℕ) (hi : i < 32) (hj : j < 32) (h : i ≠ j) (x : S64x128.Idx) : (qRect i).emb x ∉ (qRect j).set := by
  intro hm
  have h1 : (qRect i).emb x ∈ (qRect i).set := by
    rw [← Rect.map_emb_univ]; exact Finset.mem_map_of_mem _ (Finset.mem_univ x)
  exact Finset.disjoint_left.mp (qRect_disjoint i j hi hj h) h1 hm

/-! ## The run -/

section Run

variable (c : Dev nD) {Q : PUnit.{1} → sProp 𝕄}

/-- What the device holds while it goes through the heads, `n` still to do: the queries, the gathered keys and
    values, and the context, whose first parts are done. -/
def headsPre (Qv : Vec F S256x1024 .f32) (K V : Vec F S4096x1024 .f32) (n : ℕ) : sProp 𝕄 :=
  iprop(own c qM fullShare Qv ∗ own c kpM fullShare K ∗ own c vpM fullShare V
    ∗ ∃ X : Vec F S256x1024 .f32, ⌜∀ i, i < 32 - n → ∀ x, X ((qRect i).emb x) = headV Qv K V i x⌝ ∗ own c ctxM fullShare X)

theorem wp_head (Qv : Vec F S256x1024 .f32) (K V : Vec F S4096x1024 .f32) (n : ℕ) (hn : n < 32) (k : P F) (Q : PUnit.{1} → sProp 𝕄) :
    headsPre c Qv K V (n + 1) ⊢ iprop((headsPre c Qv K V n -∗ wpD c k Q) -∗ wpD c (headK (31 - n) k) Q) := by
  unfold headsPre headK
  iintro ⟨Hq, Hk, Hv, %X, %hX, Hc⟩ Hw
  iapply (wp_loadSub c qM (qRect (31 - n)) fullShare Qv) $$ Hq
  iintro Hq
  iapply (wp_loadSub c kpM (kpRect (31 - n)) fullShare K) $$ Hk
  iintro Hk
  iapply (wp_loadSub c vpM (kpRect (31 - n)) fullShare V) $$ Hv
  iintro Hv
  iapply (wp_loadSub c ctxM (qRect (31 - n)) fullShare X) $$ Hc
  iintro Hc
  iapply (wp_storeSub c ctxM (qRect (31 - n)) X) $$ Hc
  iintro Hc
  iapply Hw
  isplitl [Hq]; · iexact Hq
  isplitl [Hk]; · iexact Hk
  isplitl [Hv]; · iexact Hv
  iexists _
  isplitr
  rotate_left
  · iexact Hc
  · ipureintro
    intro i hi x
    by_cases h : i = 31 - n
    · subst h
      exact Rect.overlay_emb _ _ _ _
    · rw [Rect.overlay_of_not_mem _ _ _ (not_mem_qRect i (31 - n) (by omega) (by omega) h x)]
      exact hX i (by omega) x

theorem wp_heads (Qv : Vec F S256x1024 .f32) (K V : Vec F S4096x1024 .f32) (n : ℕ) (hn : n ≤ 32) (k : P F) (Q : PUnit.{1} → sProp 𝕄) :
    headsPre c Qv K V n ⊢ iprop((headsPre c Qv K V 0 -∗ wpD c k Q) -∗ wpD c (headsK n k) Q) := by
  induction n with
  | zero =>
    iintro H Hw
    iapply Hw
    iexact H
  | succ n ih =>
    iintro H Hw
    iapply (wp_head c Qv K V n (by omega) (headsK n k) Q) $$ H
    iintro H
    iapply (ih (by omega)) $$ H
    iexact Hw

/-- The context when all heads are done. -/
theorem headsPre_done (Qv : Vec F S256x1024 .f32) (K V : Vec F S4096x1024 .f32) :
    (headsPre c Qv K V 0 : sProp 𝕄)
      ⊢ iprop(own c qM fullShare Qv ∗ own c kpM fullShare K ∗ own c vpM fullShare V ∗ own c ctxM fullShare (ctxV Qv K V)) := by
  unfold headsPre
  iintro ⟨Hq, Hk, Hv, %X, %hX, Hc⟩
  have hXe : X = ctxV Qv K V := funext fun y => by
    have := hX (partOf y) (partOf_lt y) (inPart y)
    rw [emb_inPart] at this
    exact this
  subst hXe
  isplitl [Hq]; · iexact Hq
  isplitl [Hk]; · iexact Hk
  isplitl [Hv]; · iexact Hv
  iexact Hc

theorem hz2 : (![0, 0] : Fin 2 → ℕ) = fun _ => 0 := funext fun a => by fin_cases a <;> rfl

/-- A rectangle at the origin of the buffer's own sizes places every index at itself. -/
theorem emb_origin {n0 n1 : ℕ} (h : ∀ a, (![0, 0] : Fin 2 → ℕ) a + (⟨2, ![n0, n1]⟩ : Shape).size a ≤ (⟨2, ![n0, n1]⟩ : Shape).size a)
    (j : (⟨2, ![n0, n1]⟩ : Shape).Idx) :
    (Rect.unit (s := (⟨2, ![n0, n1]⟩ : Shape)) ![0, 0] (⟨2, ![n0, n1]⟩ : Shape).size h).emb j = j := by
  funext a
  apply Fin.ext
  fin_cases a
  · show 0 + 1 * (j 0).val = (j 0).val
    omega
  · show 0 + 1 * (j 1).val = (j 1).val
    omega

theorem wRect_emb (j : S256x1024.Idx) : wRect.emb j = j := emb_origin _ j
theorem sRect_emb (j : S1024x1024.Idx) : sRect.emb j = j := emb_origin _ j

theorem wRect_overlay (X w : Vec F S256x1024 .f32) : wRect.overlay X w = w := funext fun y => by
  have := Rect.overlay_emb wRect X w y
  rwa [wRect_emb] at this

/-- A chunk's attention: from its rows and the weights held at any share, its rows of the partial product are written. -/
theorem wp_compute (o : Fin 2 → ℕ) (ho : ∀ a, o a + S256x1024.size a ≤ S1024x1024.size a) (q : PosShare TreeShare)
    (X : Vec F S256x1024 .f32) (WQ WO : Vec F S1024x1024 .f32) (K V : Vec F S4096x1024 .f32) (k : P F) (Q : PUnit.{1} → sProp 𝕄) :
    iprop(own c (xgC o ho) q X ∗ own c wqM fullShare WQ ∗ own c woM fullShare WO ∗ own c kpM fullShare K ∗ own c vpM fullShare V
        ∗ (∃ Y, own c qM fullShare Y) ∗ (∃ Y, own c ctxM fullShare Y) ∗ (∃ Y, own c (partC o ho) fullShare Y))
      ⊢ iprop((iprop(own c (xgC o ho) q X ∗ own c wqM fullShare WQ ∗ own c woM fullShare WO ∗ own c kpM fullShare K ∗ own c vpM fullShare V
          ∗ (∃ Y, own c qM fullShare Y) ∗ (∃ Y, own c ctxM fullShare Y) ∗ own c (partC o ho) fullShare (attV X WQ WO K V)) -∗ wpD c k Q)
        -∗ wpD c (computeK o ho k) Q) := by
  unfold computeK
  iintro ⟨Hx, Hwq, Hwo, Hk, Hv, ⟨%Yq, Hq⟩, ⟨%Yc, Hc⟩, ⟨%Yp, Hp⟩⟩ Hw
  iapply (wp_loadSlice c xgM (cRect o ho) (fun _ => rfl) q X) $$ Hx
  iintro Hx
  iapply (wp_loadSub c wqM sRect fullShare WQ) $$ Hwq
  iintro Hwq
  iapply (wp_loadSub c qM wRect fullShare Yq) $$ Hq
  iintro Hq
  iapply (wp_storeSub c qM wRect Yq) $$ Hq
  iintro Hq
  rw [wRect_overlay, show (fun j => WQ (sRect.emb j)) = WQ from funext fun j => by rw [sRect_emb]]
  iapply (wp_heads c (k0_pay2 X WQ) K V 32 (le_refl _)) $$ [Hq Hk Hv Hc]
  · unfold headsPre
    isplitl [Hq]; · iexact Hq
    isplitl [Hk]; · iexact Hk
    isplitl [Hv]; · iexact Hv
    iexists Yc
    isplitr
    · ipureintro
      intro i hi
      omega
    iexact Hc
  iintro H
  ihave H' := (headsPre_done c (k0_pay2 X WQ) K V) $$ H
  icases H' with ⟨Hq, Hk, Hv, Hc⟩
  iapply (wp_loadSub c ctxM wRect fullShare (ctxV (k0_pay2 X WQ) K V)) $$ Hc
  iintro Hc
  iapply (wp_loadSub c woM sRect fullShare WO) $$ Hwo
  iintro Hwo
  iapply (wp_loadSlice c partM (cRect o ho) (fun _ => rfl) fullShare Yp) $$ Hp
  iintro Hp
  iapply (wp_storeSlice c partM (cRect o ho) (fun _ => rfl) Yp) $$ Hp
  iintro Hp
  rw [show (fun j => WO (sRect.emb j)) = WO from funext fun j => by rw [sRect_emb],
    show (fun j => ctxV (k0_pay2 X WQ) K V (wRect.emb j)) = ctxV (k0_pay2 X WQ) K V from funext fun j => by rw [wRect_emb]]
  iapply Hw
  isplitl [Hx]; · iexact Hx
  isplitl [Hwq]; · iexact Hwq
  isplitl [Hwo]; · iexact Hwo
  isplitl [Hk]; · iexact Hk
  isplitl [Hv]; · iexact Hv
  isplitl [Hq]; · iexists _; iexact Hq
  isplitl [Hc]; · iexists _; iexact Hc
  iexact Hp

end Run

end Cert.KernelIdeal.Att

end
-- ==== Proof.KernelIdeal.Copies.lean ====
/-
# The copies of the keys and the values

All 128 copies signal one semaphore, and the device waits for all of them before it reads any. The semaphore is
held as a batch: each copy issued gives up its source and its target, and the last wait hands all of them back,
the targets filled. `wp_issues` and `wp_kvWaits` are the two loops; `kv_split` takes the buffers apart into what
the copies move and says how the pieces, filled, are put together again.
-/
module

public import proofs.«01_k».proof.Proof.KernelIdeal.Compute

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ UU ℕ

/-- The copies' semaphore. -/
abbrev kvS : DmaSem sig := cc0_scratch7.sem

/-- The units one copy signals. -/
abbrev Nkv : ℕ := (dstV 0).view.dmaCredit

theorem dst_credit (t : ℕ) : (dstV t).view.dmaCredit = Nkv := by
  unfold Nkv
  unfold dstV
  generalize kvB t = b
  cases b <;> rfl

theorem Nkv_pos : 0 < Nkv := View.dmaCredit_pos _ (by decide)

/-- A copy's values: 64 rows of the matrix `X`. -/
def srcPart (X : Vec F S4096x4096 .f32) (col : ℕ) (h : col + 1024 ≤ 4096) (r : Fin 4) (kb : Fin 16) : Vec F S64x1024 .f32 :=
  fun j => X ((srcRect col h r kb).emb j)

variable (c : Dev nD) (X : Bool → Vec F S4096x4096 .f32)

/-- What a copy reads, -/
def srcOwn (p : Bool × Fin 4 × Fin 16) : sProp 𝕄 :=
  own c ((hbm2 p.1).slice (srcRect (k0_off1 c 1) (off1_le c) p.2.1 p.2.2) (fun _ => rfl)) fullShare
    (srcPart (X p.1) (k0_off1 c 1) (off1_le c) p.2.1 p.2.2)
/-- what it writes into, -/
def dstOwn (p : Bool × Fin 4 × Fin 16) (Y : Vec F S64x1024 .f32) : sProp 𝕄 :=
  own c ((packM p.1).slice (dstRect p.2.1 p.2.2) (fun _ => rfl)) fullShare Y
/-- and both when it has landed. -/
def landed (p : Bool × Fin 4 × Fin 16) : sProp 𝕄 :=
  iprop(dstOwn c p (srcPart (X p.1) (k0_off1 c 1) (off1_le c) p.2.1 p.2.2) ∗ srcOwn c X p)
/-- Before it is issued. -/
def ready (p : Bool × Fin 4 × Fin 16) : sProp 𝕄 := iprop((∃ Y, dstOwn c p Y) ∗ srcOwn c X p)

/-- Copy `t`'s operand, residue class and block. -/
def ixOf (t : ℕ) : Bool × Fin 4 × Fin 16 := (kvB t, kvR t, kvK t)

def DKV (t : Fin 128) : sProp 𝕄 := landed c X (ixOf t.val)

instance DKV_storable (t : Fin 128) : BI.Storable (upEmb : UEmb _ 𝕄) (DKV c X t) := by
  unfold DKV landed dstOwn srcOwn; infer_instance

abbrev kvBatch (j u : ℕ) : sProp 𝕄 := Batch EC (c : Thread nD τ) (.dma kvS) () Nkv (DKV c X) j u

/-! ## The loops -/

theorem wp_issue (t : ℕ) (ht : t < 128) (k : P F) (Q : PUnit.{1} → sProp 𝕄) :
    iprop(ready c X (ixOf t) ∗ kvBatch c X t 0) ⊢ iprop((kvBatch c X (t + 1) 0 -∗ wpD c k Q) -∗ wpD c (issueK c t k) Q) := by
  unfold ready dstOwn srcOwn own owns issueK
  iintro ⟨⟨⟨%Y, %fd, %hfd, Hd⟩, ⟨%fs, %hfs, Hs⟩⟩, HB⟩ Hk
  iapply (Transfers.wp_dmaBatch EC 𝒱₀ (c : Thread nD τ) none (src := srcV c t) (dst := dstV t) (fs := fs) (fd := fd)
    (sm := .dma kvS) (Sd := (dstV t).view.set) (D := DKV c X) (j := t) (u := 0) () Nkv (dst_credit t) (Finset.Subset.refl _) ht (Nat.zero_le _) ?hD) $$ [Hs Hd HB]
  case hD =>
    unfold DKV landed dstOwn srcOwn own owns
    iintro ⟨H1, H2⟩
    isplitl [H1]
    · iexists _
      isplitr
      rotate_left
      · iexact H1
      · ipureintro
        exact (View.read_write_univ _ _).trans hfs
    · iexists fs
      isplitr; · ipureintro; exact hfs
      iexact H2
  · isplitl [Hs]; · iexact Hs
    isplitl [Hd]; · iexact Hd
    iexact HB
  iintro HB
  iapply Hk
  iexact HB

/-- All copies are issued. -/
theorem wp_issues (n : ℕ) (hn : n ≤ 128) (k : P F) (Q : PUnit.{1} → sProp 𝕄) :
    iprop(bigSep (pending (128 - n)) (fun t : Fin 128 => ready c X (ixOf t.val)) ∗ kvBatch c X (128 - n) 0)
      ⊢ iprop((kvBatch c X 128 0 -∗ wpD c k Q) -∗ wpD c (issuesK c n k) Q) := by
  induction n with
  | zero =>
    iintro ⟨-, HB⟩ Hk
    iapply Hk
    iexact HB
  | succ n ih =>
    have h1 : 128 - (n + 1) = 127 - n := by omega
    have h2 : 127 - n + 1 = 128 - n := by omega
    have h3 : 127 - n < 128 := by omega
    rw [h1]
    iintro ⟨HR, HB⟩ Hk
    ihave HR' := (Entails.of_eq (bigSep_pending_step (fun t : Fin 128 => ready c X (ixOf t.val)) (127 - n) h3)) $$ HR
    icases HR' with ⟨Ht, HR⟩
    iapply (wp_issue c X (127 - n) h3 (issuesK c n k) Q) $$ [Ht HB]
    · isplitl [Ht]; · iexact Ht
      iexact HB
    iintro HB
    rw [h2]
    iapply (ih (by omega)) $$ [HR HB]
    · isplitl [HR]; · iexact HR
      iexact HB
    iexact Hk

/-- All copies are waited for: the device owes `O` meanwhile, which `Lv` says it may. -/
theorem wp_kvWaits (Lv : sProp 𝕄) [BI.Persistent Lv] (O : CellTallies nD τ sig Unit)
    (hM : Lv ⊢ MayWait (c : Thread nD τ) (.dma kvS) () O) (n : ℕ) (hn : n < 128) (W : Waits sig Unit) (k : P F) (Q : PUnit.{1} → sProp 𝕄) :
    iprop(Lv ∗ kvBatch c X 128 (Nkv * (127 - n)) ∗ owes (c : Thread nD τ) O W)
      ⊢ iprop((iprop(bigSep Finset.univ (DKV c X) ∗ semVal ((c : Thread nD τ), .dma kvS) 0 ∗ ∃ W', owes (c : Thread nD τ) O W') -∗ wpD c k Q)
        -∗ wpD c (kvWaitsK c (n + 1) k) Q) := by
  induction n generalizing W with
  | zero =>
    have hlast : Nkv * (127 - 0) + Nkv = Nkv * 128 := (Nat.mul_succ Nkv 127).symm
    iintro ⟨#HL, HB, HO⟩ Hk
    iapply (Transfers.wp_waitBatchLastO EC 𝒱₀ (c : Thread nD τ) none (D := DKV c X) (u := Nkv * (127 - 0)) () (dst_credit 127) Nkv_pos
      (hlast) (O := O) (W := W)) $$ [HB HO]
    · isplitl [HB]; · iexact HB
      isplitl [HO]; · iexact HO
      iapply hM
      iexact HL
    iintro ⟨HD, Hz, HO⟩
    iapply Hk
    isplitl [HD]; · iexact HD
    isplitl [Hz]; · iexact Hz
    iexists _
    iexact HO
  | succ n ih =>
    have h1 : Nkv * (127 - (n + 1)) + Nkv = Nkv * (127 - n) := by
      rw [show 127 - n = (127 - (n + 1)) + 1 from by omega]; exact (Nat.mul_succ _ _).symm
    have h2 : Nkv * (127 - (n + 1)) + Nkv < Nkv * 128 := by
      rw [h1]; exact Nat.mul_lt_mul_of_pos_left (by omega) Nkv_pos
    iintro ⟨#HL, HB, HO⟩ Hk
    iapply (Transfers.wp_waitBatchO EC 𝒱₀ (c : Thread nD τ) none (D := DKV c X) (u := Nkv * (127 - (n + 1))) () (dst_credit (127 - (n + 1))) h2
      (O := O) (W := W)) $$ [HB HO]
    · isplitl [HB]; · iexact HB
      isplitl [HO]; · iexact HO
      iapply hM
      iexact HL
    iintro ⟨HB, HO⟩
    rw [h1]
    iapply (ih (by omega) _) $$ [HB HO]
    · isplitr; · iexact HL
      isplitl [HB]; · iexact HB
      iexact HO
    iexact Hk

/-! ## The pieces -/

/-- A copy's number from its operand, residue class and block. -/
def ixEquiv : Fin 128 ≃ Bool × Fin 4 × Fin 16 where
  toFun t := ixOf t.val
  invFun p := ⟨32 * p.2.1.val + 16 * (bif p.1 then 1 else 0) + p.2.2.val, by
    have h1 := p.2.1.isLt
    have h2 := p.2.2.isLt
    cases p.1 <;> simp only [cond_true, cond_false] <;> omega⟩
  left_inv := by decide
  right_inv := by decide

/-- The gathered rows: residue class by residue class, block by block, in the device's 1024 columns. -/
def packX (X : Vec F S4096x4096 .f32) (c : Dev nD) : Vec F S4096x1024 .f32 := fun y =>
  X (ValueIdx.ix2
    ⟨256 * ((y 0).val % 1024 / 64) + 64 * ((y 0).val / 1024) + (y 0).val % 64, by
      have h : (y 0).val < 4096 := (y 0).isLt
      omega⟩
    ⟨1024 * c.val + (y 1).val, by
      have h : (y 1).val < 1024 := (y 1).isLt
      have h3 : c.val < 4 := c.isLt
      omega⟩)

theorem packX_part (X : Vec F S4096x4096 .f32) (r : Fin 4) (kb : Fin 16) :
    (fun j => packX X c ((dstRect r kb).emb j)) = srcPart X (k0_off1 c 1) (off1_le c) r kb := by
  funext j
  unfold packX srcPart
  have h0 : (j 0).val < 64 := (j 0).isLt
  have h1 := r.isLt
  have h2 := kb.isLt
  have e0 : ((dstRect r kb).emb j 0).val = 1024 * r.val + 64 * kb.val + (j 0).val := by
    show 1024 * r.val + 64 * kb.val + 1 * (j 0).val = _
    omega
  have e1 : ((dstRect r kb).emb j 1).val = (j 1).val := by
    show 0 + 1 * (j 1).val = _
    omega
  congr 1
  funext a
  apply Fin.ext
  fin_cases a
  · show 256 * (((dstRect r kb).emb j 0).val % 1024 / 64) + 64 * (((dstRect r kb).emb j 0).val / 1024) + ((dstRect r kb).emb j 0).val % 64
      = 256 * kb.val + 64 * r.val + 1 * (j 0).val
    rw [e0]
    omega
  · show 1024 * c.val + ((dstRect r kb).emb j 1).val = k0_off1 c 1 + 1 * (j 1).val
    rw [e1, off1_col]
    omega

theorem dstRect_disjoint (p p' : Fin 4 × Fin 16) (h : p ≠ p') : Disjoint (dstRect p.1 p.2).set (dstRect p'.1 p'.2).set := by
  have h2 := p.2.isLt
  have h2' := p'.2.isLt
  have hne : p.1.val ≠ p'.1.val ∨ p.2.val ≠ p'.2.val := by
    by_contra hc
    rw [not_or, not_not, not_not] at hc
    exact h (Prod.ext (Fin.ext hc.1) (Fin.ext hc.2))
  exact Rect.unit_disjoint (s := S4096x1024) (0 : Fin 2) (by
    show 1024 * p.1.val + 64 * p.2.val + 64 ≤ 1024 * p'.1.val + 64 * p'.2.val ∨ 1024 * p'.1.val + 64 * p'.2.val + 64 ≤ 1024 * p.1.val + 64 * p.2.val
    omega)

theorem dstRect_cover : (Finset.univ : Finset (Fin 4 × Fin 16)).biUnion (fun p => (dstRect p.1 p.2).set) = Finset.univ := by
  refine Finset.eq_univ_iff_forall.mpr fun y => Finset.mem_biUnion.mpr ?_
  have h0 : (y 0).val < 4096 := (y 0).isLt
  have h1 : (y 1).val < 1024 := (y 1).isLt
  refine ⟨(⟨(y 0).val / 1024, by omega⟩, ⟨(y 0).val % 1024 / 64, by omega⟩), Finset.mem_univ _, ?_⟩
  rw [Rect.mem_set_unit]
  intro a
  fin_cases a
  · show 1024 * ((y 0).val / 1024) + 64 * ((y 0).val % 1024 / 64) ≤ (y 0).val
      ∧ (y 0).val < 1024 * ((y 0).val / 1024) + 64 * ((y 0).val % 1024 / 64) + 64
    omega
  · show 0 ≤ (y 1).val ∧ (y 1).val < 0 + 1024
    omega

/-- The columns of column block `cb` of the matrix in the pieces all copies of all devices read. -/
theorem colBlock_le (cb : Fin 4) : 1024 * cb.val + 1024 ≤ 4096 := by have := cb.isLt; omega

abbrev allRect (t : Fin 4 × Fin 4 × Fin 16) : Rect S4096x4096 := srcRect (1024 * t.1.val) (colBlock_le t.1) t.2.1 t.2.2

theorem allRect_disjoint (p p' : Fin 4 × Fin 4 × Fin 16) (h : p ≠ p') : Disjoint (allRect p).set (allRect p').set := by
  have hb := p.2.1.isLt
  have hb' := p'.2.1.isLt
  by_cases h1 : p.1.val = p'.1.val
  · have hne : p.2.1.val ≠ p'.2.1.val ∨ p.2.2.val ≠ p'.2.2.val := by
      by_contra hc
      rw [not_or, not_not, not_not] at hc
      exact h (Prod.ext (Fin.ext h1) (Prod.ext (Fin.ext hc.1) (Fin.ext hc.2)))
    exact Rect.unit_disjoint (s := S4096x4096) (0 : Fin 2) (by
      show 256 * p.2.2.val + 64 * p.2.1.val + 64 ≤ 256 * p'.2.2.val + 64 * p'.2.1.val
        ∨ 256 * p'.2.2.val + 64 * p'.2.1.val + 64 ≤ 256 * p.2.2.val + 64 * p.2.1.val
      omega)
  · exact Rect.unit_disjoint (s := S4096x4096) (1 : Fin 2) (by
      show 1024 * p.1.val + 1024 ≤ 1024 * p'.1.val ∨ 1024 * p'.1.val + 1024 ≤ 1024 * p.1.val
      omega)

theorem allRect_cover : (Finset.univ : Finset (Fin 4 × Fin 4 × Fin 16)).biUnion (fun p => (allRect p).set) = Finset.univ := by
  refine Finset.eq_univ_iff_forall.mpr fun y => Finset.mem_biUnion.mpr ?_
  have h0 : (y 0).val < 4096 := (y 0).isLt
  have h1 : (y 1).val < 4096 := (y 1).isLt
  refine ⟨(⟨(y 1).val / 1024, by omega⟩, ⟨(y 0).val % 256 / 64, by omega⟩, ⟨(y 0).val / 256, by omega⟩), Finset.mem_univ _, ?_⟩
  rw [Rect.mem_set_unit]
  intro a
  fin_cases a
  · show 256 * ((y 0).val / 256) + 64 * ((y 0).val % 256 / 64) ≤ (y 0).val
      ∧ (y 0).val < 256 * ((y 0).val / 256) + 64 * ((y 0).val % 256 / 64) + 64
    omega
  · show 1024 * ((y 1).val / 1024) ≤ (y 1).val ∧ (y 1).val < 1024 * ((y 1).val / 1024) + 1024
    omega

/-- The piece at a column written in another way. -/
theorem srcOwn_congr (b : Bool) (col col' : ℕ) (h : col + 1024 ≤ 4096) (h' : col' + 1024 ≤ 4096) (e : col = col') (Xb : Vec F S4096x4096 .f32)
    (r : Fin 4) (kb : Fin 16) :
    (own c ((hbm2 b).slice (srcRect col h r kb) (fun _ => rfl)) fullShare (srcPart Xb col h r kb) : sProp 𝕄)
      = own c ((hbm2 b).slice (srcRect col' h' r kb) (fun _ => rfl)) fullShare (srcPart Xb col' h' r kb) := by
  subst e
  rfl

/-- The device's columns of the keys (or the values) are taken out of the whole and put back. -/
theorem src_split (b : Bool) :
    (own c (hbm2 b) fullShare (X b) : sProp 𝕄)
      ⊢ iprop(bigSep Finset.univ (fun p : Fin 4 × Fin 16 => srcOwn c X (b, p))
        ∗ (bigSep Finset.univ (fun p : Fin 4 × Fin 16 => srcOwn c X (b, p)) -∗ own c (hbm2 b) fullShare (X b))) := by
  have hE : (own c (hbm2 b) fullShare (X b) : sProp 𝕄)
      = bigSep Finset.univ fun t : Fin 4 × Fin 4 × Fin 16 =>
          own c ((hbm2 b).slice (allRect t) (fun _ => rfl)) fullShare (fun j => X b ((allRect t).emb j)) :=
    BI.equiv_iff.mp ⟨owns_rects (c : Thread nD τ) (hbm2 b) fullShare allRect (fun _ _ => rfl) allRect_disjoint allRect_cover (X b),
      owns_of_rects (c : Thread nD τ) (hbm2 b) fullShare allRect (fun _ _ => rfl) allRect_disjoint allRect_cover (X b)⟩
  rw [hE, bigSep_univ_prod, bigSep_univ_at _ (⟨c.val, c.isLt⟩ : Fin 4)]
  have hC : (bigSep Finset.univ fun p : Fin 4 × Fin 16 =>
        own c ((hbm2 b).slice (allRect ((⟨c.val, c.isLt⟩ : Fin 4), p)) (fun _ => rfl)) fullShare
          (fun j => X b ((allRect ((⟨c.val, c.isLt⟩ : Fin 4), p)).emb j)) : sProp 𝕄)
      = bigSep Finset.univ fun p : Fin 4 × Fin 16 => srcOwn c X (b, p) :=
    bigSep_congr fun p _ => srcOwn_congr c b (1024 * c.val) (k0_off1 c 1) (colBlock_le ⟨c.val, c.isLt⟩) (off1_le c) (off1_col c).symm (X b) p.1 p.2
  rw [hC]
  iintro ⟨H1, H2⟩
  isplitl [H1]; · iexact H1
  iintro H1
  isplitl [H1]; · iexact H1
  iexact H2

/-- A gathering buffer is taken apart -/
theorem dst_split (b : Bool) (Y : Vec F S4096x1024 .f32) :
    (own c (packM b) fullShare Y : sProp 𝕄) ⊢ bigSep Finset.univ (fun p : Fin 4 × Fin 16 => iprop(∃ Z, dstOwn c (b, p) Z)) := by
  refine (owns_rects (c : Thread nD τ) (packM b) fullShare (fun p : Fin 4 × Fin 16 => dstRect p.1 p.2) (fun _ _ => rfl)
    dstRect_disjoint dstRect_cover Y).trans (bigSep_mono fun p _ => ?_)
  show dstOwn c (b, p) (fun j => Y ((dstRect p.1 p.2).emb j)) ⊢ iprop(∃ Z, dstOwn c (b, p) Z)
  iintro H
  iexists _
  iexact H

/-- and, filled, put together. -/
theorem dst_join (b : Bool) :
    (bigSep Finset.univ (fun p : Fin 4 × Fin 16 => dstOwn c (b, p) (srcPart (X b) (k0_off1 c 1) (off1_le c) p.1 p.2)) : sProp 𝕄)
      ⊢ own c (packM b) fullShare (packX (X b) c) := by
  refine (Entails.of_eq (bigSep_congr fun p _ => ?_)).trans
    (owns_of_rects (c : Thread nD τ) (packM b) fullShare (fun p : Fin 4 × Fin 16 => dstRect p.1 p.2) (fun _ _ => rfl)
      dstRect_disjoint dstRect_cover (packX (X b) c))
  rw [packX_part]
  rfl

/-- One operand's copies, from the whole to the pieces and back. -/
theorem one_split (b : Bool) (Y : Vec F S4096x1024 .f32) :
    iprop(own c (hbm2 b) fullShare (X b) ∗ own c (packM b) fullShare Y)
      ⊢ (iprop(bigSep Finset.univ (fun p : Fin 4 × Fin 16 => ready c X (b, p))
        ∗ (bigSep Finset.univ (fun p : Fin 4 × Fin 16 => landed c X (b, p))
          -∗ (own c (hbm2 b) fullShare (X b) ∗ own c (packM b) fullShare (packX (X b) c)))) : sProp 𝕄) := by
  unfold ready landed
  rw [bigSep_sep', bigSep_sep']
  iintro ⟨Hs, Hd⟩
  ihave Hs' := (src_split c X b) $$ Hs
  icases Hs' with ⟨Hs, Hback⟩
  ihave Hd' := (dst_split c b Y) $$ Hd
  isplitl [Hs Hd']
  · isplitl [Hd']; · iexact Hd'
    iexact Hs
  iintro ⟨Hd, Hs⟩
  isplitl [Hs Hback]
  · iapply Hback
    iexact Hs
  iapply (dst_join c X b)
  iexact Hd

/-- Both operands' copies, numbered as they are issued. -/
theorem kv_split (Y0 Y1 : Vec F S4096x1024 .f32) :
    iprop(own c (hbm2 false) fullShare (X false) ∗ own c (hbm2 true) fullShare (X true) ∗ own c kpM fullShare Y0 ∗ own c vpM fullShare Y1)
      ⊢ (iprop(bigSep (pending 0) (fun t : Fin 128 => ready c X (ixOf t.val))
        ∗ (bigSep Finset.univ (DKV c X)
          -∗ (own c (hbm2 false) fullShare (X false) ∗ own c (hbm2 true) fullShare (X true)
            ∗ own c kpM fullShare (packX (X false) c) ∗ own c vpM fullShare (packX (X true) c)))) : sProp 𝕄) := by
  have hB (Φ : Bool × Fin 4 × Fin 16 → sProp 𝕄) : (bigSep Finset.univ fun t : Fin 128 => Φ (ixOf t.val))
      = iprop((bigSep Finset.univ fun p : Fin 4 × Fin 16 => Φ (false, p)) ∗ bigSep Finset.univ fun p : Fin 4 × Fin 16 => Φ (true, p)) := by
    rw [show (bigSep Finset.univ fun t : Fin 128 => Φ (ixOf t.val)) = bigSep Finset.univ Φ from (bigSep_univ_equiv ixEquiv Φ).symm,
      bigSep_univ_prod, bigSep_univ_eq_bigSepL [false, true] (by decide) (by decide), bigSepL_cons_cons, bigSepL_singleton]
    rfl
  rw [← bigSep_pending_zero (fun t : Fin 128 => ready c X (ixOf t.val)), hB (ready c X), show (bigSep Finset.univ (DKV c X) : sProp 𝕄) = _ from hB (landed c X)]
  iintro ⟨H0, H1, HY0, HY1⟩
  ihave HA := (one_split c X false Y0) $$ [H0 HY0]
  · isplitl [H0]; · iexact H0
    iexact HY0
  ihave HB := (one_split c X true Y1) $$ [H1 HY1]
  · isplitl [H1]; · iexact H1
    iexact HY1
  icases HA with ⟨HA, HAb⟩
  icases HB with ⟨HB, HBb⟩
  isplitl [HA HB]
  · isplitl [HA]; · iexact HA
    iexact HB
  iintro ⟨HA, HB⟩
  ihave HA' := HAb $$ HA
  ihave HB' := HBb $$ HB
  icases HA' with ⟨H0, HY0⟩
  icases HB' with ⟨H1, HY1⟩
  isplitl [H0]; · iexact H0
  isplitl [H1]; · iexact H1
  isplitl [HY0]; · iexact HY0
  iexact HY1

end Cert.KernelIdeal.Att

end
-- ==== Proof.KernelIdeal.Plan.lean ====
/-
# The plan of the two rings

What each semaphore's unit stands for. A device first tells both neighbours that it has begun; with its word to
the device before it, it hands over the places that device will write: three chunks of its gathered rows and
its three slots. A received chunk comes with the rows themselves, a sent one's end gives them back.
-/
module

public import proofs.«01_k».proof.Proof.KernelIdeal.Copies

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring -/

set_option backward.proofsInPublic true in
/-- The next device, -/
def nxt (c : Dev nD) : Dev nD := ⟨(c.val + 1) % 4, Nat.mod_lt _ (by decide)⟩
set_option backward.proofsInPublic true in
/-- the one across, -/
def opp (c : Dev nD) : Dev nD := ⟨(c.val + 2) % 4, Nat.mod_lt _ (by decide)⟩
set_option backward.proofsInPublic true in
/-- the one before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem opp_nxt (c : Dev nD) : opp (nxt c) = prv c := by revert c; decide
theorem nxt_nxt (c : Dev nD) : nxt (nxt c) = opp c := by revert c; decide

def ring : Dev nD ≃ Dev nD := ⟨nxt, prv, prv_nxt, nxt_prv⟩
def ringBack : Dev nD ≃ Dev nD := ⟨prv, nxt, nxt_prv, prv_nxt⟩

/-- The chunk device `c` sends at step `h` of the first ring, -/
def sk (c : Dev nD) : Fin 3 → Dev nD | 0 => c | 1 => prv c | 2 => opp c
/-- and the one it receives; also the one whose partial sum it sends at step `h` of the second. -/
def rk (c : Dev nD) : Fin 3 → Dev nD | 0 => prv c | 1 => opp c | 2 => nxt c
/-- The chunk the partial sum received at step `h` of the second ring is added to. -/
def ak (c : Dev nD) : Fin 3 → Dev nD | 0 => opp c | 1 => nxt c | 2 => c

theorem rk_nxt (c : Dev nD) (h : Fin 3) : rk (nxt c) h = sk c h := by revert c h; decide

/-- The first of a chunk's 256 rows. -/
def cOff (k : Dev nD) : Fin 2 → ℕ := ![256 * k.val, 0]
theorem cOff_inb (k : Dev nD) : ∀ a, cOff k a + S256x1024.size a ≤ S1024x1024.size a := by
  have h : k.val < 4 := k.isLt
  intro a
  fin_cases a
  · show 256 * k.val + 256 ≤ 1024; omega
  · show 0 + 1024 ≤ 1024; omega

/-- The gathered rows of a chunk, and its rows of the partial products. -/
abbrev xgAt (k : Dev nD) : Memref sig .tc .vmem S256x1024 .f32 := xgC (cOff k) (cOff_inb k)
abbrev paAt (k : Dev nD) : Memref sig .tc .vmem S256x1024 .f32 := partC (cOff k) (cOff_inb k)

/-! The offsets the kernel computes are those of the chunks. -/

theorem off65_chunk (d : Dev nD) : k0_off65 d = cOff d := k0_off65_eq d
theorem off66_chunk (d : Dev nD) (h : Fin 3) : k0_off66 d (BitVec.ofNat 32 h.val) = cOff (sk d h) := by
  rw [k0_off66_eq]; revert d h; decide
theorem off67_chunk (d : Dev nD) (h : Fin 3) : k0_off67 d (BitVec.ofNat 32 (1 + h.val)) = cOff (rk d (2 - h)) := by
  rw [k0_off67_eq]; revert d h; decide
theorem off68_chunk (d : Dev nD) (h : Fin 3) : k0_off68 d (BitVec.ofNat 32 h.val) = cOff (rk d h) := by
  rw [k0_off68_eq]; revert d h; decide
theorem off69_chunk (d : Dev nD) (h : Fin 3) : k0_off69 d (BitVec.ofNat 32 h.val) = cOff (ak d h) := by
  rw [k0_off69_eq]; revert d h; decide
theorem nxtK_eq (d : Dev nD) : nxtK d = nxt d := Fin.ext (k0_dev3_eq d)
theorem prvK_eq (d : Dev nD) : prvK d = prv d := Fin.ext (k0_dev1_eq d)

/-! ## The semaphores -/

abbrev agS (h : Fin 3) : DmaSem sig := semN cc0_scratch8 h
abbrev agR (h : Fin 3) : DmaSem sig := semN cc0_scratch9 h
abbrev rsS (h : Fin 3) : DmaSem sig := semN cc0_scratch10 h
abbrev rsR (h : Fin 3) : DmaSem sig := semN cc0_scratch11 h

theorem agS_val (h : Fin 3) : (agS h).val = 5 + h.val := by revert h; decide
theorem agR_val (h : Fin 3) : (agR h).val = 8 + h.val := by revert h; decide
theorem rsS_val (h : Fin 3) : (rsS h).val = 11 + h.val := by revert h; decide
theorem rsR_val (h : Fin 3) : (rsR h).val = 14 + h.val := by revert h; decide

/-- The kernel's own semaphores: the copies' one and the rings' twelve; -/
def osem : Fin 13 → SemLoc sig
  | 0 => .dma kvS
  | 1 => .dma (agS 0) | 2 => .dma (agS 1) | 3 => .dma (agS 2)
  | 4 => .dma (agR 0) | 5 => .dma (agR 1) | 6 => .dma (agR 2)
  | 7 => .dma (rsS 0) | 8 => .dma (rsS 1) | 9 => .dma (rsS 2)
  | 10 => .dma (rsR 0) | 11 => .dma (rsR 1) | 12 => .dma (rsR 2)
/-- and those of the rings: the barrier in the place of the copies' one. -/
def csem : Fin 13 → SemLoc sig
  | 0 => .reg barS
  | 1 => .dma (agS 0) | 2 => .dma (agS 1) | 3 => .dma (agS 2)
  | 4 => .dma (agR 0) | 5 => .dma (agR 1) | 6 => .dma (agR 2)
  | 7 => .dma (rsS 0) | 8 => .dma (rsS 1) | 9 => .dma (rsS 2)
  | 10 => .dma (rsR 0) | 11 => .dma (rsR 1) | 12 => .dma (rsR 2)

abbrev kcell (ck : Dev nD × Fin 13) : GSem nD τ sig := ((ck.1 : Thread nD τ), csem ck.2)
abbrev barCell (c : Dev nD) : GSem nD τ sig := ((c : Thread nD τ), .reg barS)
abbrev dcell (c : Dev nD) (s : DmaSem sig) : GSem nD τ sig := ((c : Thread nD τ), .dma s)

/-- The units of one chunk. -/
abbrev N : ℕ := (slotV 0).view.dmaCredit
theorem N_pos : 0 < N := View.dmaCredit_pos _ (by decide)

/-! ## The contents, from the memory at the launch -/

section Contents

variable (m : (ℓ : Loc nD τ sig) → Buf (Elt F) ℓ)

def xstg (c : Dev nD) : Vec F S1x256x1024 .f32 := (win0_0.blk (0 : Fin 1)).view.read (Elt F) (m ((c : Thread nD τ).loc main_arg0))
def wqstg (c : Dev nD) : Vec F S1024x1024 .f32 := (win0_1.blk (0 : Fin 1)).view.read (Elt F) (m ((c : Thread nD τ).loc main_arg1))
def wostg (c : Dev nD) : Vec F S1024x1024 .f32 := (win0_2.blk (0 : Fin 1)).view.read (Elt F) (m ((c : Thread nD τ).loc main_arg4))
/-- The keys and the values, a row per position. -/
def kvX (c : Dev nD) (b : Bool) : Vec F S4096x4096 .f32 := (hbm2 b).view.read (Elt F) (m ((hbm2 b).view.loc (c : Thread nD τ)))

/-- Chunk `k` of the rows, -/
def XV (k : Dev nD) : Vec F S256x1024 .f32 := k0_pay1 (xstg m k)
/-- what device `c` makes of it, -/
def Pp (c k : Dev nD) : Vec F S256x1024 .f32 :=
  attV (XV m k) (wqstg m c) (wostg m c) (packX (kvX m c false) c) (packX (kvX m c true) c)
/-- The chunk of its sum number `n` on the second ring, -/
def sumChunk (c : Dev nD) : ℕ → Dev nD | 0 => prv c | 1 => opp c | 2 => nxt c | _ => c
/-- and that sum. -/
def AV : ℕ → Dev nD → Vec F S256x1024 .f32
  | 0, c => Pp m c (sumChunk c 0)
  | n + 1, c => k0_pay155 (Pp m c (sumChunk c (n + 1))) (AV n (prv c))

end Contents

/-! ## What the units stand for -/

variable (m : (ℓ : Loc nD τ sig) → Buf (Elt F) ℓ)

/-- The places the device before `d` writes on `d`. -/
def places (d : Dev nD) : sProp 𝕄 :=
  iprop((∃ X, own d (xgAt (rk d 0)) fullShare X) ∗ (∃ X, own d (xgAt (rk d 1)) fullShare X) ∗ (∃ X, own d (xgAt (rk d 2)) fullShare X)
    ∗ (∃ X, own d (slotV 0) fullShare X) ∗ (∃ X, own d (slotV 1) fullShare X) ∗ (∃ X, own d (slotV 2) fullShare X))

def agSPay (c : Dev nD) (h : Fin 3) : sProp 𝕄 := own c (xgAt (sk c h)) fullShare.right (XV m (sk c h))
def agRPay (c : Dev nD) (h : Fin 3) : sProp 𝕄 := own c (xgAt (rk c h)) fullShare (XV m (rk c h))
def rsSPay (c : Dev nD) (h : Fin 3) : sProp 𝕄 := own c (paAt (rk c h)) fullShare (AV m h.val c)
def rsRPay (c : Dev nD) (h : Fin 3) : sProp 𝕄 := own c (slotV h) fullShare (AV m h.val (prv c))

def dmaPay (c : Dev nD) : ℕ → sProp 𝕄
  | 5 => agSPay m c 0 | 6 => agSPay m c 1 | 7 => agSPay m c 2
  | 8 => agRPay m c 0 | 9 => agRPay m c 1 | 10 => agRPay m c 2
  | 11 => rsSPay m c 0 | 12 => rsSPay m c 1 | 13 => rsSPay m c 2
  | 14 => rsRPay m c 0 | 15 => rsRPay m c 1 | 16 => rsRPay m c 2
  | _ => iprop(emp)

def semPay (c : Dev nD) : SemLoc sig → Bool → sProp 𝕄
  | .reg _, true => places (nxt c)
  | .reg _, false => iprop(emp)
  | .dma i, _ => dmaPay m c i.val

def semDuties : SemLoc sig → Finset Bool
  | .reg _ => Finset.univ
  | .dma _ => {false}

def semAmount : SemLoc sig → ℕ
  | .reg _ => 1
  | .dma _ => N

/-- One round: two units of the barrier, one transfer of every other cell. -/
def rd : Rounds.Schedule (GSem nD τ sig) Bool 𝕄 where
  duties g r := if r = 0 then semDuties g.2 else ∅
  unitless _ := False
  amount g _ _ := semAmount g.2
  payload g _ d := semPay m g.1.1 g.2 d
  amount_pos g _ _ _ := by
    show 0 < semAmount g.2
    unfold semAmount
    split
    · exact Nat.one_pos
    · exact N_pos

instance dmaPay_storable (c : Dev nD) (n : ℕ) : BI.Storable (upEmb : UEmb _ 𝕄) (dmaPay m c n) := by
  unfold dmaPay agSPay agRPay rsSPay rsRPay
  split <;> infer_instance

instance places_storable (c : Dev nD) : BI.Storable (upEmb : UEmb _ 𝕄) (places (F := F) c) := by
  unfold places; infer_instance

instance rd_payload_storable (g : GSem nD τ sig) (r : ℕ) (d : Bool) : BI.Storable (upEmb : UEmb _ 𝕄) ((rd m).payload g r d) := by
  show BI.Storable upEmb (semPay m g.1.1 g.2 d)
  unfold semPay
  split <;> infer_instance

theorem duties_later (g : GSem nD τ sig) : ∀ r, 1 ≤ r → (rd m).duties g r = ∅ :=
  fun r hr => if_neg (by omega)
theorem duties_bar (c : Dev nD) : (rd m).duties (barCell c) 0 = Finset.univ := rfl
theorem duties_dma (c : Dev nD) (s : DmaSem sig) : (rd m).duties (dcell c s) 0 = {false} := rfl

theorem expect_bar (c : Dev nD) : (rd m).expect (barCell c) 0 = 2 := by
  unfold Schedule.expect Schedule.amountOf
  rw [duties_bar]
  show (Finset.univ.sum fun _ : Bool => 1) = 2
  decide
theorem expect_dma (c : Dev nD) (s : DmaSem sig) : (rd m).expect (dcell c s) 0 = N := by
  unfold Schedule.expect Schedule.amountOf
  rw [duties_dma, Finset.sum_singleton]
  rfl

theorem rest_bar (c : Dev nD) :
    bigSep ((rd m).duties (barCell c) 0 \ ∅) (fun d => (rd m).payload (barCell c) 0 d) = iprop(emp ∗ places (nxt c)) := by
  rw [Finset.sdiff_empty, duties_bar, bigSep_univ_eq_bigSepL [false, true] (by decide) (by decide), bigSepL_cons_cons, bigSepL_singleton]
  rfl
theorem rest_dma (c : Dev nD) (s : DmaSem sig) :
    bigSep ((rd m).duties (dcell c s) 0 \ ∅) (fun d => (rd m).payload (dcell c s) 0 d) = (rd m).payload (dcell c s) 0 false := by
  rw [Finset.sdiff_empty, duties_dma, bigSep_singleton]

theorem pay_agS (c : Dev nD) (h : Fin 3) : (rd m).payload (dcell c (agS h)) 0 false = agSPay m c h := by
  show dmaPay m c (agS h).val = _
  rw [agS_val]; fin_cases h <;> rfl
theorem pay_agR (c : Dev nD) (h : Fin 3) : (rd m).payload (dcell c (agR h)) 0 false = agRPay m c h := by
  show dmaPay m c (agR h).val = _
  rw [agR_val]; fin_cases h <;> rfl
theorem pay_rsS (c : Dev nD) (h : Fin 3) : (rd m).payload (dcell c (rsS h)) 0 false = rsSPay m c h := by
  show dmaPay m c (rsS h).val = _
  rw [rsS_val]; fin_cases h <;> rfl
theorem pay_rsR (c : Dev nD) (h : Fin 3) : (rd m).payload (dcell c (rsR h)) 0 false = rsRPay m c h := by
  show dmaPay m c (rsR h).val = _
  rw [rsR_val]; fin_cases h <;> rfl

/-! ## What each device owes; the levels -/

/-- The receiving semaphores of the six steps, the last step's first. -/
def rcvS : ℕ → DmaSem sig
  | 0 => rsR 2 | 1 => rsR 1 | 2 => agR 2 | 3 => rsR 0 | 4 => agR 1 | _ => agR 0

/-- What device `c` owes its last `n` steps; -/
def oR (c : Dev nD) : ℕ → CellTallies nD τ sig Unit
  | 0 => 0
  | n + 1 => oR c n + tallyAt (dcell (nxt c) (rcvS n)) () N
/-- with its word to the next device, -/
def O₁ (c : Dev nD) : CellTallies nD τ sig Unit := oR c 6 + tallyAt (barCell (nxt c)) () 1
/-- and to the one before. -/
def O₀ (c : Dev nD) : CellTallies nD τ sig Unit := O₁ c + tallyAt (barCell (prv c)) () 1

def L (g : GSem nD τ sig) : Finset Unit := if g.1.2 = .tc then {()} else ∅
/-- A semaphore's level: nothing below it is awaited by a device that owes it. -/
def lvS : SemLoc sig → ℕ
  | .reg _ => 1
  | .dma i => match i.val with
    | 8 => 2 | 9 => 3 | 14 => 4 | 10 => 5 | 15 => 6 | 16 => 7 | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_rcvS : ∀ n : ℕ, n < 6 → lvS (.dma (rcvS n)) = 7 - n
  | 0, _ => by decide
  | 1, _ => by decide
  | 2, _ => by decide
  | 3, _ => by decide
  | 4, _ => by decide
  | 5, _ => by decide
  | n + 6, h => absurd h (by omega)

theorem oR_pos (c : Dev nD) : ∀ (n : ℕ) {g : GSem nD τ sig} {u : Unit}, 0 < oR c n g u → ∃ k, k < n ∧ g = dcell (nxt c) (rcvS k)
  | 0, g, u, h => absurd h (Nat.lt_irrefl 0)
  | n + 1, g, u, h => by
    rcases Pipeline.add_pos_cases h with h | h
    · obtain ⟨k, hk, e⟩ := oR_pos c n h
      exact ⟨k, by omega, e⟩
    · exact ⟨n, Nat.lt_succ_self n, (Pipeline.tallyAt_pos h).1⟩

/-- A device that owes its last `n` steps may wait for a semaphore below them. -/
theorem mayWait (c : Dev nD) (sm : SemLoc sig) (n : ℕ) (hn : n ≤ 6) (h : lvS sm + n < 8) :
    (levAts L lv : sProp 𝕄) ⊢ MayWait (c : Thread nD τ) sm () (oR c n) :=
  Pipeline.mayWait_of_levAts (by rw [L_tc]; exact Finset.mem_singleton_self _) fun g u hg => by
    obtain ⟨k, hk, rfl⟩ := oR_pos c n hg
    refine ⟨by rw [L_tc]; exact Finset.mem_singleton_self _, ?_⟩
    show lvS sm < lvS (.dma (rcvS k))
    rw [lv_rcvS k (by omega)]
    omega

/-- Before it has begun it may wait for what has level zero. -/
theorem mayWait_stage (c : Dev nD) (sm : SemLoc sig) (h : lvS sm = 0) (O : CellTallies nD τ sig Unit) (hO : O = O₀ c ∨ O = 0) :
    (levAts L lv : sProp 𝕄) ⊢ MayWait (c : Thread nD τ) sm () O := by
  rcases hO with rfl | rfl
  · refine Pipeline.mayWait_of_levAts (by rw [L_tc]; exact Finset.mem_singleton_self _) fun g u hg => ?_
    unfold O₀ O₁ at hg
    rcases Pipeline.add_pos_cases hg with hg | hg
    · rcases Pipeline.add_pos_cases hg with hg | hg
      · obtain ⟨k, hk, rfl⟩ := oR_pos c 6 hg
        refine ⟨by rw [L_tc]; exact Finset.mem_singleton_self _, ?_⟩
        show lvS sm < lvS (.dma (rcvS k))
        rw [lv_rcvS k hk]
        omega
      · obtain ⟨rfl, -⟩ := Pipeline.tallyAt_pos hg
        refine ⟨by rw [L_tc]; exact Finset.mem_singleton_self _, ?_⟩
        show lvS sm < 1
        omega
    · obtain ⟨rfl, -⟩ := Pipeline.tallyAt_pos hg
      refine ⟨by rw [L_tc]; exact Finset.mem_singleton_self _, ?_⟩
      show lvS sm < 1
      omega
  · rw [MayWait_zero]; iintro -; iempintro

/-! ## The rings' state -/

/-- Every cell's invariant, and that its round has begun. -/
def records (K : Dev nD × Fin 13 → ℕ) : sProp 𝕄 :=
  iprop((bigSep Finset.univ fun ck => cellInv ER (rd m) (K ck) (kcell ck)) ∗ bigSep Finset.univ fun ck => reached ER (kcell ck) 0)

instance records_persistent (K : Dev nD × Fin 13 → ℕ) : BI.Persistent (records m K) := by unfold records; infer_instance

theorem inv_at (K : Dev nD × Fin 13 → ℕ) (ck : Dev nD × Fin 13) : records m K ⊢ cellInv ER (rd m) (K ck) (kcell ck) :=
  sep_elim_left.trans (bigSep_elim (Finset.mem_univ ck))
theorem reached_at (K : Dev nD × Fin 13 → ℕ) (ck : Dev nD × Fin 13) : records m K ⊢ reached ER (kcell ck) 0 :=
  sep_elim_right.trans (bigSep_elim (Finset.mem_univ ck))

/-- Where a ring semaphore stands in the list. -/
def iAS : Fin 3 → Fin 13 | 0 => 1 | 1 => 2 | 2 => 3
def iAR : Fin 3 → Fin 13 | 0 => 4 | 1 => 5 | 2 => 6
def iRS : Fin 3 → Fin 13 | 0 => 7 | 1 => 8 | 2 => 9
def iRR : Fin 3 → Fin 13 | 0 => 10 | 1 => 11 | 2 => 12
theorem csem_AS (h : Fin 3) : csem (iAS h) = .dma (agS h) := by fin_cases h <;> rfl
theorem csem_AR (h : Fin 3) : csem (iAR h) = .dma (agR h) := by fin_cases h <;> rfl
theorem csem_RS (h : Fin 3) : csem (iRS h) = .dma (rsS h) := by fin_cases h <;> rfl
theorem csem_RR (h : Fin 3) : csem (iRR h) = .dma (rsR h) := by fin_cases h <;> rfl

/-- The device whose cell `k` device `c` raises. -/
def tgt (c : Dev nD) : Fin 13 → Dev nD
  | 0 => nxt c
  | 1 => c | 2 => c | 3 => c | 7 => c | 8 => c | 9 => c
  | 4 => nxt c | 5 => nxt c | 6 => nxt c | 10 => nxt c | 11 => nxt c | 12 => nxt c

/-- What device `c`'s body starts from of the rings' state: the records, its positions, the duties it pays. -/
def ghost (K : Dev nD × Fin 13 → ℕ) (c : Dev nD) : sProp 𝕄 :=
  iprop(records m K
    ∗ (bigSep Finset.univ fun k : Fin 13 => atPos ER (kcell (c, k)) 0 ∅ 0)
    ∗ dutyTok ER (barCell (prv c)) 0 true
    ∗ (bigSep Finset.univ fun k : Fin 13 => dutyTok ER (kcell (tgt c k, k)) 0 false))

/-- The credits: its barrier's two units and its six receipts. -/
def creds (c : Dev nD) : sProp 𝕄 :=
  iprop(cred (tallyAt (barCell c) () 2)
    ∗ cred (tallyAt (dcell c (agR 0)) () N) ∗ cred (tallyAt (dcell c (agR 1)) () N) ∗ cred (tallyAt (dcell c (agR 2)) () N)
    ∗ cred (tallyAt (dcell c (rsR 0)) () N) ∗ cred (tallyAt (dcell c (rsR 1)) () N) ∗ cred (tallyAt (dcell c (rsR 2)) () N))

/-- The keys and the values where they lie. -/
def kvHeld (c : Dev nD) : sProp 𝕄 :=
  iprop(own c (hbm2 false) fullShare (kvX m c false) ∗ own c (hbm2 true) fullShare (kvX m c true))

/-- A buffer of a device, whatever it holds. -/
abbrev ownEx (c : Dev nD) {sp : Space} {sh : Shape} {e : EltTy} (M : Memref sig .tc sp sh e) : sProp 𝕄 := iprop(∃ X, own c M fullShare X)

def start (c : Dev nD) : sProp 𝕄 :=
  iprop((∃ K, ghost m K c) ∗ creds c ∗ levAts L lv ∗ semVal ((c : Thread nD τ), osem 0) 0 ∗ kvHeld m c)

/-- The kernel's scratch buffers. -/
def scratch (c : Dev nD) : sProp 𝕄 :=
  iprop(ownEx c xgM ∗ ownEx c qM ∗ ownEx c ctxM ∗ ownEx c partM ∗ ownEx c rsM ∗ ownEx c kpM ∗ ownEx c vpM)

def Φ₀ (c : Dev nD) : sProp 𝕄 := iprop(start m c ∗ scratch c)
/-- After the body: the scratch buffers, every semaphore at zero, the keys and the values as they were. -/
def Φ₁ (c : Dev nD) : sProp 𝕄 :=
  iprop(scratch c ∗ (bigSep Finset.univ fun k : Fin 13 => semVal ((c : Thread nD τ), osem k) 0) ∗ semVal (barCell c) 0 ∗ kvHeld m c)

def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => AV m 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Att

end
-- ==== Proof.KernelIdeal.Ring.lean ====
/-
# One step of the rings

The rules of the single steps: a chunk sent to the next device, a transfer awaited, a received partial sum added.
And how the buffers fall into the chunks and slots the steps move.
-/
module

public import proofs.«01_k».proof.Proof.KernelIdeal.Plan

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Chunks and slots -/

theorem chunks_disjoint (k k' : Dev nD) (h : k ≠ k') : Disjoint (cRect (cOff k) (cOff_inb k)).set (cRect (cOff k') (cOff_inb k')).set :=
  Rect.unit_disjoint (s := S1024x1024) (0 : Fin 2) (by
    have h' : k.val ≠ k'.val := fun e => h (Fin.ext e)
    show 256 * k.val + 256 ≤ 256 * k'.val ∨ 256 * k'.val + 256 ≤ 256 * k.val
    omega)

theorem chunks_cover : (Finset.univ : Finset (Dev nD)).biUnion (fun k => (cRect (cOff k) (cOff_inb k)).set) = Finset.univ := by
  refine Finset.eq_univ_iff_forall.mpr fun y => Finset.mem_biUnion.mpr ?_
  have h0 : (y 0).val < 1024 := (y 0).isLt
  have h1 : (y 1).val < 1024 := (y 1).isLt
  refine ⟨(⟨(y 0).val / 256, by show _ < 4; omega⟩ : Dev nD), Finset.mem_univ _, ?_⟩
  rw [Rect.mem_set_unit]
  intro a
  fin_cases a
  · show 256 * ((y 0).val / 256) ≤ (y 0).val ∧ (y 0).val < 256 * ((y 0).val / 256) + 256
    omega
  · show 0 ≤ (y 1).val ∧ (y 1).val < 0 + 1024
    omega

theorem slots_disjoint (s s' : Fin 3) (h : s ≠ s') : Disjoint (slotRect s).set (slotRect s').set :=
  Rect.unit_disjoint (s := S768x1024) (0 : Fin 2) (by
    have h' : s.val ≠ s'.val := fun e => h (Fin.ext e)
    show 256 * s.val + 256 ≤ 256 * s'.val ∨ 256 * s'.val + 256 ≤ 256 * s.val
    omega)

theorem slots_cover : (Finset.univ : Finset (Fin 3)).biUnion (fun s => (slotRect s).set) = Finset.univ := by
  refine Finset.eq_univ_iff_forall.mpr fun y => Finset.mem_biUnion.mpr ?_
  have h0 : (y 0).val < 768 := (y 0).isLt
  have h1 : (y 1).val < 1024 := (y 1).isLt
  refine ⟨⟨(y 0).val / 256, by omega⟩, Finset.mem_univ _, ?_⟩
  rw [Rect.mem_set_unit]
  intro a
  fin_cases a
  · show 256 * ((y 0).val / 256) ≤ (y 0).val ∧ (y 0).val < 256 * ((y 0).val / 256) + 256
    omega
  · show 0 ≤ (y 1).val ∧ (y 1).val < 0 + 1024
    omega

section Split

variable (c : Dev nD)

/-- The four devices, from one on. -/
theorem bigSep_ring (Φ : Dev nD → sProp 𝕄) : bigSep Finset.univ Φ = iprop(Φ c ∗ Φ (prv c) ∗ Φ (opp c) ∗ Φ (nxt c)) := by
  rw [bigSep_univ_eq_bigSepL [c, prv c, opp c, nxt c] (by revert c; decide) (by revert c; decide), bigSepL_cons_cons, bigSepL_cons_cons,
    bigSepL_cons_cons, bigSepL_singleton]
  rfl

theorem bigSep_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

/-- A buffer of 1024 rows is its four chunks, -/
theorem chunks_split (M : Memref sig .tc .vmem S1024x1024 .f32) :
    (ownEx c M : sProp 𝕄)
      ⊢ bigSep Finset.univ fun k : Dev nD => ownEx c (M.slice (cRect (cOff k) (cOff_inb k)) (fun _ => rfl)) := by
  refine exists_elim fun X => ?_
  refine (owns_rects (c : Thread nD τ) M fullShare (fun k : Dev nD => cRect (cOff k) (cOff_inb k)) (fun _ _ => rfl)
    chunks_disjoint chunks_cover X).trans ?_
  exact bigSep_mono fun k _ => exists_intro (Φ := fun X => own c (M.slice (cRect (cOff k) (cOff_inb k)) (fun _ => rfl)) fullShare X) _

/-- and is them again. -/
theorem chunks_join (M : Memref sig .tc .vmem S1024x1024 .f32) (G : Dev nD → Vec F S256x1024 .f32) :
    bigSep Finset.univ (fun k : Dev nD => own c (M.slice (cRect (cOff k) (cOff_inb k)) (fun _ => rfl)) fullShare (G k))
      ⊢ (ownEx c M : sProp 𝕄) :=
  own_of_rects_ex c M fullShare (fun k : Dev nD => cRect (cOff k) (cOff_inb k)) (fun _ _ => rfl) chunks_disjoint chunks_cover G

/-- The receive buffer is its three slots, -/
theorem slots_split :
    (ownEx c rsM : sProp 𝕄) ⊢ bigSep Finset.univ fun s : Fin 3 => ownEx c (slotV s) := by
  refine exists_elim fun X => ?_
  refine (owns_rects (c : Thread nD τ) rsM fullShare slotRect (fun _ _ => rfl) slots_disjoint slots_cover X).trans ?_
  exact bigSep_mono fun t _ => exists_intro (Φ := fun X => own c (slotV t) fullShare X) _

/-- and is them again. -/
theorem slots_join (G : Fin 3 → Vec F S256x1024 .f32) :
    bigSep Finset.univ (fun s : Fin 3 => own c (slotV s) fullShare (G s)) ⊢ (ownEx c rsM : sProp 𝕄) :=
  own_of_rects_ex c rsM fullShare slotRect (fun _ _ => rfl) slots_disjoint slots_cover G

end Split

/-! ## The steps -/

variable (m : (ℓ : Loc nD τ sig) → Buf (Elt F) ℓ) (K : Dev nD × Fin 13 → ℕ) (c : Dev nD)

/-- What a device owes, whatever it has waited for. -/
def owesE (O : CellTallies nD τ sig Unit) : sProp 𝕄 := iprop(∃ W, owes (c : Thread nD τ) O W)

/-- A transfer awaited: its payload, and its cell closed at zero. -/
theorem wp_waitCell (i : Fin 13) (s : DmaSem sig) (hi : csem i = .dma s) (n : ℕ) (hn : n ≤ 6) (hlv : lvS (.dma s) + n < 8)
    (pay : sProp 𝕄) (hpay : (rd m).payload (dcell c s) 0 false = pay)
    {S T : Shape} {e e' : EltTy} (src : Memref sig .tc .vmem S e) (dst : Memref sig .tc .vmem T e') (hcr : dst.view.dmaCredit = N)
    {hs : src.view.WordExact} {hd : dst.view.WordExact} (k : P F) (Q : PUnit.{1} → sProp 𝕄) :
    iprop(records m K ∗ levAts L lv ∗ cred (tallyAt (dcell c s) () N) ∗ owesE c (oR c n) ∗ atPos ER (dcell c s) 0 ∅ 0)
      ⊢ iprop((iprop(owesE c (oR c n) ∗ semVal (dcell c s) 0 ∗ pay) -∗ wpD c k Q)
        -∗ wpD c (.op (.waitDma2 s src dst hs hd) fun _ => k) Q) := by
  subst hpay
  unfold owesE
  iintro ⟨#HR, #HL, Hc, ⟨%W, HO⟩, Hat⟩ Hk
  ihave #HI := (inv_at m K (c, i)) $$ HR
  rw [show kcell (c, i) = dcell c s from by show ((c : Thread nD τ), csem i) = _; rw [hi]]
  iapply (Rounds.wp_wait_rest_token 𝒱₀ ER (rd m) (c : Thread nD τ) none (κ := K (c, i))
      (wpE_waitDma2_eq 𝒱₀ (c : Thread nD τ) none Set.univ) (Set.mem_univ _) () (O := oR c n) (W := W) (R := 0) (m := 0) (T := ∅)
      (by rw [Nat.zero_add, expect_dma]; exact hcr)) $$ [Hc HO Hat]
  · isplitr; · iexact HI
    isplitl [Hc]; · rw [hcr]; iexact Hc
    isplitl [HO]; · iexact HO
    isplitr; · iapply (mayWait c (.dma s) n hn hlv); iexact HL
    iexact Hat
  iintro ⟨HO, Hat, -, Hpay⟩
  ihave Hp := (Entails.of_eq (rest_dma m c s)) $$ Hpay
  imod (Rounds.cell_close ER (rd m) (Set.mem_univ (K (c, i))) (fun h => h) (R := 0 + 1) (duties_later m (dcell c s))) $$ [Hat] with Hz
  · isplitr; · iexact HI
    iexact Hat
  iapply Hk
  isplitl [HO]; · iexists _; iexact HO
  isplitl [Hz]; · iexact Hz
  iexact Hp

/-- A transfer to the next device begun. -/
theorem wp_sendCell (i j : Fin 13) (sS sR : DmaSem sig) (hi : csem i = .dma sS) (hj : csem j = .dma sR) (O : CellTallies nD τ sig Unit)
    {src dst : Memref sig .tc .vmem S256x1024 .f32} (q : PosShare TreeShare) (X : Vec F S256x1024 .f32)
    (hcr : dst.view.dmaCredit = N)
    (hpay₁ : own c src q X ⊢ (rd m).payload (dcell c sS) 0 false)
    (hpay₂ : own (nxt c) dst fullShare X ⊢ (rd m).payload (dcell (nxt c) sR) 0 false)
    (n : Dev nD) (hn : n = nxt c)
    {hsc : (dst : Memref sig (Dev.tc n : Thread nD τ).2.kind .vmem S256x1024 .f32).view.ref.isScScratch = false}
    {hsrc : src.view.WordExact} {hdst : dst.view.WordExact}
    {hsem : DmaTarget.Typed .vmem (.dma sR) (.remote (Dev.tc n : Thread nD τ) dst (.dma sS) hsc)}
    (k : P F) (Q : PUnit.{1} → sProp 𝕄) :
    iprop(records m K ∗ own c src q X ∗ ownEx (nxt c) dst ∗ owesE c (O + tallyAt (dcell (nxt c) sR) () N)
        ∗ dutyTok ER (dcell c sS) 0 false ∗ dutyTok ER (dcell (nxt c) sR) 0 false)
      ⊢ iprop((iprop(cred (tallyAt (dcell c sS) () N) ∗ owesE c O) -∗ wpD c k Q)
        -∗ wpD c (.op (.enqueueDma src (.remote (Dev.tc n : Thread nD τ) dst (.dma sS) hsc) (.dma sR) hsrc hdst hsem) fun _ => k) Q) := by
  subst hn
  unfold owesE ownEx own owns
  iintro ⟨#HR, ⟨%fs, %hfs, Hsrc⟩, ⟨%Y, %fd, %hfd, Hdst⟩, ⟨%W, HO⟩, Ht1, Ht2⟩ Hk
  ihave #HI1 := (inv_at m K (c, i)) $$ HR
  ihave #HI2 := (inv_at m K (nxt c, j)) $$ HR
  ihave #HR1 := (reached_at m K (c, i)) $$ HR
  ihave #HR2 := (reached_at m K (nxt c, j)) $$ HR
  rw [show kcell (c, i) = dcell c sS from by show ((c : Thread nD τ), csem i) = _; rw [hi],
    show kcell (nxt c, j) = dcell (nxt c) sR from by show ((nxt c : Thread nD τ), csem j) = _; rw [hj]]
  iapply (Rounds.wp_send_pointsTo 𝒱₀ ER (rd m) (c : Thread nD τ) none (κ₁ := K (c, i)) (κ₂ := K (nxt c, j))
    (r₁ := 0) (r₂ := 0) (d₁ := false) (d₂ := false) (c' := (nxt c : Thread nD τ)) (fs := fs) (fd := fd) (src := src) (dst := dst) (sem := .dma sR) (q := q)
    (Finset.mem_singleton_self _) (Finset.mem_singleton_self _) () () N hcr rfl rfl O rfl (W := W)
    (by
      refine BIBase.Entails.trans ?_ hpay₁
      unfold own owns
      iintro H
      iexists fs
      isplitr; · ipureintro; exact hfs
      iexact H)
    (by
      refine BIBase.Entails.trans ?_ hpay₂
      unfold own owns
      iintro H
      iexists _
      isplitr; rotate_left; · iexact H
      ipureintro
      exact (View.read_write_univ _ _).trans hfs)) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- Step `h` of the first ring sent: half of the chunk is given up. -/
theorem wp_agSend (h : Fin 3) (i j : Fin 13) (hi : csem i = .dma (agS h)) (hj : csem j = .dma (agR h)) (O : CellTallies nD τ sig Unit)
    (k : P F) (Q : PUnit.{1} → sProp 𝕄) :
    iprop(records m K ∗ own c (xgAt (sk c h)) fullShare (XV m (sk c h)) ∗ ownEx (nxt c) (xgAt (rk (nxt c) h))
        ∗ owesE c (O + tallyAt (dcell (nxt c) (agR h)) () N) ∗ dutyTok ER (dcell c (agS h)) 0 false ∗ dutyTok ER (dcell (nxt c) (agR h)) 0 false)
      ⊢ iprop((iprop(own c (xgAt (sk c h)) fullShare.left (XV m (sk c h)) ∗ cred (tallyAt (dcell c (agS h)) () N) ∗ owesE c O) -∗ wpD c k Q)
        -∗ wpD c (agSendK c h k) Q) := by
  have hop : (agSendK c h k : P F) = agSendP (nxt c) (cOff (sk c h)) (cOff_inb _) h k := by
    unfold agSendK
    congr 1
    · exact nxtK_eq c
    · exact off66_chunk c h
  rw [hop, rk_nxt]
  unfold agSendP
  iintro ⟨#HR, Hx, Hd, HO, Ht1, Ht2⟩ Hk
  ihave Hx := (own_halves c (xgAt (sk c h)) (XV m (sk c h))) $$ Hx
  icases Hx with ⟨Hl, Hr⟩
  iapply (wp_sendCell m K c i j (agS h) (agR h) hi hj O (src := xgAt (sk c h)) (dst := xgAt (sk c h)) fullShare.right (XV m (sk c h)) rfl
    (Entails.of_eq (pay_agS m c h).symm) (Entails.of_eq (by rw [pay_agR]; unfold agRPay; rw [rk_nxt])) (nxt c) rfl) $$ [Hr Hd HO Ht1 Ht2]
  · isplitr; · iexact HR
    isplitl [Hr]; · iexact Hr
    isplitl [Hd]; · iexact Hd
    isplitl [HO]; · iexact HO
    isplitl [Ht1] <;> iassumption
  iintro ⟨Hc, HO⟩
  iapply Hk
  isplitl [Hl]; · iexact Hl
  isplitl [Hc] <;> iassumption

/-- Step `s` of the second ring sent. -/
theorem wp_rsSend (s : Fin 3) (i j : Fin 13) (hi : csem i = .dma (rsS s)) (hj : csem j = .dma (rsR s)) (O : CellTallies nD τ sig Unit)
    (k : P F) (Q : PUnit.{1} → sProp 𝕄) :
    iprop(records m K ∗ own c (paAt (rk c s)) fullShare (AV m s.val c) ∗ ownEx (nxt c) (slotV s)
        ∗ owesE c (O + tallyAt (dcell (nxt c) (rsR s)) () N) ∗ dutyTok ER (dcell c (rsS s)) 0 false ∗ dutyTok ER (dcell (nxt c) (rsR s)) 0 false)
      ⊢ iprop((iprop(cred (tallyAt (dcell c (rsS s)) () N) ∗ owesE c O) -∗ wpD c k Q)
        -∗ wpD c (rsSendK c s k) Q) := by
  have hop : (rsSendK c s k : P F) = rsSendP (nxt c) (cOff (rk c s)) (cOff_inb _) s k := by
    unfold rsSendK
    congr 1
    · exact nxtK_eq c
    · exact off68_chunk c s
  rw [hop]
  unfold rsSendP
  exact wp_sendCell m K c i j (rsS s) (rsR s) hi hj O (src := paAt (rk c s)) (dst := slotV s) fullShare (AV m s.val c) rfl
    (Entails.of_eq (pay_rsS m c s).symm) (Entails.of_eq (by rw [pay_rsR]; unfold rsRPay; rw [prv_nxt])) (nxt c) rfl k Q

/-- What a received partial sum is added to, and the sum. -/
theorem AV_step (s : Fin 3) : AV m (s.val + 1) c = k0_pay155 (Pp m c (ak c s)) (AV m s.val (prv c)) := by
  fin_cases s <;> rfl

/-- A received partial sum added to the device's own. -/
theorem wp_acc (s : Fin 3) (k : P F) (Q : PUnit.{1} → sProp 𝕄) :
    iprop(own c (paAt (ak c s)) fullShare (Pp m c (ak c s)) ∗ rsRPay m c s)
      ⊢ iprop((iprop(own c (paAt (ak c s)) fullShare (AV m (s.val + 1) c) ∗ rsRPay m c s) -∗ wpD c k Q)
        -∗ wpD c (accK c s k) Q) := by
  have hop : (accK c s k : P F) = accP (cOff (ak c s)) (cOff_inb _) s k := by
    unfold accK
    congr 1
    exact off69_chunk c s
  rw [hop]
  unfold accP rsRPay
  iintro ⟨Hp, Hs⟩ Hk
  iapply (wp_loadSlice c partM (cRect (cOff (ak c s)) (cOff_inb _)) (fun _ => rfl) fullShare (Pp m c (ak c s))) $$ Hp
  iintro Hp
  iapply (wp_loadSlice c rsM (slotRect s) (fun _ => rfl) fullShare (AV m s.val (prv c))) $$ Hs
  iintro Hs
  iapply (wp_loadSlice c partM (cRect (cOff (ak c s)) (cOff_inb _)) (fun _ => rfl) fullShare (Pp m c (ak c s))) $$ Hp
  iintro Hp
  iapply (wp_storeSlice c partM (cRect (cOff (ak c s)) (cOff_inb _)) (fun _ => rfl) (Pp m c (ak c s))) $$ Hp
  iintro Hp
  iapply Hk
  rw [AV_step]
  isplitl [Hp] <;> iassumption

theorem x3Rect_emb (j : S1x256x1024.Idx) : x3Rect.emb j = j := by
  funext a
  apply Fin.ext
  fin_cases a
  · show 0 + 1 * (j 0).val = (j 0).val; omega
  · show 0 + 1 * (j 1).val = (j 1).val; omega
  · show 0 + 1 * (j 2).val = (j 2).val; omega

/-- The device's rows put at their place. -/
theorem wp_place (X : Vec F S1x256x1024 .f32) (k : P F) (Q : PUnit.{1} → sProp 𝕄) :
    iprop(own c xM fullShare X ∗ ownEx c (xgAt c))
      ⊢ iprop((iprop(own c xM fullShare X ∗ own c (xgAt c) fullShare (k0_pay1 X)) -∗ wpD c k Q) -∗ wpD c (placeK c k) Q) := by
  have hop : (placeK c k : P F) = placeP (cOff c) (cOff_inb _) k := by
    unfold placeK
    congr 1
    exact off65_chunk c
  rw [hop]
  unfold placeP
  iintro ⟨Hx, ⟨%Y, Hg⟩⟩ Hk
  iapply (wp_loadSub c xM x3Rect fullShare X) $$ Hx
  iintro Hx
  iapply (wp_loadSlice c xgM (cRect (cOff c) (cOff_inb _)) (fun _ => rfl) fullShare Y) $$ Hg
  iintro Hg
  iapply (wp_storeSlice c xgM (cRect (cOff c) (cOff_inb _)) (fun _ => rfl) Y) $$ Hg
  iintro Hg
  iapply Hk
  isplitl [Hx]; · iexact Hx
  rw [show (fun j => X (x3Rect.emb j)) = X from funext fun j => congrArg X (x3Rect_emb j)]
  iexact Hg

/-- The device's rows of the result put out. -/
theorem wp_out (X : Vec F S256x1024 .f32) (k : P F) (Q : PUnit.{1} → sProp 𝕄) :
    iprop(own c (paAt c) fullShare X ∗ ownEx c outM)
      ⊢ iprop((iprop(own c (paAt c) fullShare X ∗ own c outM fullShare X) -∗ wpD c k Q) -∗ wpD c (outK c k) Q) := by
  have hop : (outK c k : P F) = outP (cOff c) (cOff_inb _) k := by
    unfold outK
    congr 1
    exact off65_chunk c
  rw [hop]
  unfold outP
  iintro ⟨Hp, ⟨%Y, Ho⟩⟩ Hk
  iapply (wp_loadSlice c partM (cRect (cOff c) (cOff_inb _)) (fun _ => rfl) fullShare X) $$ Hp
  iintro Hp
  iapply (wp_loadSub c outM wRect fullShare Y) $$ Ho
  iintro Ho
  iapply (wp_storeSub c outM wRect Y) $$ Ho
  iintro Ho
  iapply Hk
  isplitl [Hp]; · iexact Hp
  rw [wRect_overlay]
  iexact Ho

/-- A chunk's attention, at the offset the kernel computes. -/
theorem wp_computeAt (o : Fin 2 → ℕ) (ho : ∀ a, o a + S256x1024.size a ≤ S1024x1024.size a) (j : Dev nD) (hj : o = cOff j)
    (q : PosShare TreeShare) (k : P F) (Q : PUnit.{1} → sProp 𝕄) :
    iprop(own c (xgAt j) q (XV m j) ∗ own c wqM fullShare (wqstg m c) ∗ own c woM fullShare (wostg m c)
        ∗ own c kpM fullShare (packX (kvX m c false) c) ∗ own c vpM fullShare (packX (kvX m c true) c)
        ∗ ownEx c qM ∗ ownEx c ctxM ∗ ownEx c (paAt j))
      ⊢ iprop((iprop(own c (xgAt j) q (XV m j) ∗ own c wqM fullShare (wqstg m c) ∗ own c woM fullShare (wostg m c)
        ∗ own c kpM fullShare (packX (kvX m c false) c) ∗ own c vpM fullShare (packX (kvX m c true) c)
        ∗ ownEx c qM ∗ ownEx c ctxM ∗ own c (paAt j) fullShare (Pp m c j)) -∗ wpD c k Q)
        -∗ wpD c (computeK o ho k) Q) := by
  subst hj
  exact wp_compute c (cOff j) (cOff_inb j) q (XV m j) (wqstg m c) (wostg m c) _ _ k Q

end Cert.KernelIdeal.Att

end
-- ==== Proof.KernelIdeal.Body.lean ====
/-
# The body of the kernel on one device

The steps in the order of the program: the copies begun, the neighbours told, the device's rows placed, and the
four chunks between the steps of the two rings.
-/
module

public import proofs.«01_k».proof.Proof.KernelIdeal.Ring

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What each step needs -/

section Needs

variable (c : Dev nD)

/-- To send at step `h` of the first ring, -/
def stepA (h : Fin 3) : sProp 𝕄 :=
  iprop(dutyTok ER (dcell c (agS h)) 0 false ∗ dutyTok ER (dcell (nxt c) (agR h)) 0 false ∗ ownEx (nxt c) (xgAt (rk (nxt c) h)))
/-- of the second; -/
def stepB (h : Fin 3) : sProp 𝕄 :=
  iprop(dutyTok ER (dcell c (rsS h)) 0 false ∗ dutyTok ER (dcell (nxt c) (rsR h)) 0 false ∗ ownEx (nxt c) (slotV h))
/-- to wait for the units of a transfer. -/
def expect (s : DmaSem sig) : sProp 𝕄 := iprop(cred (tallyAt (dcell c s) () N) ∗ atPos ER (dcell c s) 0 ∅ 0)
/-- An own cell whose transfer has not begun. -/
def idle (s : DmaSem sig) : sProp 𝕄 := atPos ER (dcell c s) 0 ∅ 0
/-- A cell done with. -/
def closed (s : DmaSem sig) : sProp 𝕄 := semVal (dcell c s) 0

end Needs

variable (m : (ℓ : Loc nD τ sig) → Buf (Elt F) ℓ) (K : Dev nD × Fin 13 → ℕ) (c : Dev nD)

theorem wp_wait (i : Fin 13) (s : DmaSem sig) (hi : csem i = .dma s) (n : ℕ) (hn : n ≤ 6) (hlv : lvS (.dma s) + n < 8)
    (pay : sProp 𝕄) (hpay : (rd m).payload (dcell c s) 0 false = pay)
    {S T : Shape} {e e' : EltTy} (src : Memref sig .tc .vmem S e) (dst : Memref sig .tc .vmem T e') (hcr : dst.view.dmaCredit = N)
    {hs : src.view.WordExact} {hd : dst.view.WordExact} (k : P F) (Q : PUnit.{1} → sProp 𝕄) :
    iprop(records m K ∗ levAts L lv ∗ expect c s ∗ owesE c (oR c n))
      ⊢ iprop((iprop(owesE c (oR c n) ∗ closed c s ∗ pay) -∗ wpD c k Q)
        -∗ wpD c (.op (.waitDma2 s src dst hs hd) fun _ => k) Q) := by
  unfold expect closed
  iintro ⟨#HR, #HL, ⟨Hc, Hat⟩, HO⟩
  iapply (wp_waitCell m K c i s hi n hn hlv pay hpay src dst hcr k Q)
  isplitr; · iexact HR
  isplitr; · iexact HL
  isplitl [Hc]; · iexact Hc
  isplitl [HO] <;> iassumption

theorem wp_agRecv (h : Fin 3) (i : Fin 13) (hi : csem i = .dma (agR h)) (n : ℕ) (hn : n ≤ 6) (hlv : lvS (.dma (agR h)) + n < 8)
    (k : P F) (Q : PUnit.{1} → sProp 𝕄) :
    iprop(records m K ∗ levAts L lv ∗ expect c (agR h) ∗ owesE c (oR c n))
      ⊢ iprop((iprop(owesE c (oR c n) ∗ closed c (agR h) ∗ own c (xgAt (rk c h)) fullShare (XV m (rk c h))) -∗ wpD c k Q) -∗ wpD c (agRecvK c h k) Q) := by
  unfold agRecvK agRecvP
  exact wp_wait m K c i (agR h) hi n hn hlv _ (pay_agR m c h) (xgC _ (k0_off66_inb c h)) (xgC _ (k0_off66_inb c h)) rfl k Q

theorem wp_agDone (h : Fin 3) (i : Fin 13) (hi : csem i = .dma (agS h)) (hlv : lvS (.dma (agS h)) + 0 < 8)
    (k : P F) (Q : PUnit.{1} → sProp 𝕄) :
    iprop(records m K ∗ levAts L lv ∗ expect c (agS h) ∗ own c (xgAt (sk c h)) fullShare.left (XV m (sk c h)) ∗ owesE c (oR c 0))
      ⊢ iprop((iprop(owesE c (oR c 0) ∗ closed c (agS h) ∗ own c (xgAt (sk c h)) fullShare (XV m (sk c h))) -∗ wpD c k Q) -∗ wpD c (agDoneK c h k) Q) := by
  unfold agDoneK agDoneP
  iintro ⟨#HR, #HL, He, Hl, HO⟩ Hk
  iapply (wp_wait m K c i (agS h) hi 0 (by omega) hlv _ (pay_agS m c h) (xgC _ (k0_off66_inb c h)) (xgC _ (k0_off66_inb c h)) rfl k Q) $$ [He HO]
  · isplitr; · iexact HR
    isplitr; · iexact HL
    isplitl [He] <;> iassumption
  iintro ⟨HO, Hz, Hr⟩
  iapply Hk
  isplitl [HO]; · iexact HO
  isplitl [Hz]; · iexact Hz
  iapply (own_of_halves c (xgAt (sk c h)) (XV m (sk c h)) (XV m (sk c h)))
  unfold agSPay
  isplitl [Hl] <;> iassumption

theorem wp_rsRecv (h : Fin 3) (i : Fin 13) (hi : csem i = .dma (rsR h)) (n : ℕ) (hn : n ≤ 6) (hlv : lvS (.dma (rsR h)) + n < 8)
    (k : P F) (Q : PUnit.{1} → sProp 𝕄) :
    iprop(records m K ∗ levAts L lv ∗ expect c (rsR h) ∗ owesE c (oR c n))
      ⊢ iprop((iprop(owesE c (oR c n) ∗ closed c (rsR h) ∗ rsRPay m c h) -∗ wpD c k Q) -∗ wpD c (rsRecvK c h k) Q) := by
  unfold rsRecvK rsRecvP
  exact wp_wait m K c i (rsR h) hi n hn hlv _ (pay_rsR m c h) (partC _ (k0_off68_inb c h)) (slotV h) rfl k Q

theorem wp_rsDone (h : Fin 3) (i : Fin 13) (hi : csem i = .dma (rsS h)) (hlv : lvS (.dma (rsS h)) + 0 < 8)
    (k : P F) (Q : PUnit.{1} → sProp 𝕄) :
    iprop(records m K ∗ levAts L lv ∗ expect c (rsS h) ∗ owesE c (oR c 0))
      ⊢ iprop((iprop(owesE c (oR c 0) ∗ closed c (rsS h) ∗ own c (paAt (rk c h)) fullShare (AV m h.val c)) -∗ wpD c k Q) -∗ wpD c (rsDoneK c h k) Q) := by
  unfold rsDoneK rsDoneP
  exact wp_wait m K c i (rsS h) hi 0 (by omega) hlv _ (pay_rsS m c h) (slotV h) (partC _ (k0_off68_inb c h)) rfl k Q

theorem wp_sendA (h : Fin 3) (i j : Fin 13) (hi : csem i = .dma (agS h)) (hj : csem j = .dma (agR h)) (n : ℕ) (hr : rcvS n = agR h)
    (k : P F) (Q : PUnit.{1} → sProp 𝕄) :
    iprop(records m K ∗ own c (xgAt (sk c h)) fullShare (XV m (sk c h)) ∗ stepA c h ∗ idle c (agS h) ∗ owesE c (oR c (n + 1)))
      ⊢ iprop((iprop(own c (xgAt (sk c h)) fullShare.left (XV m (sk c h)) ∗ expect c (agS h) ∗ owesE c (oR c n)) -∗ wpD c k Q)
        -∗ wpD c (agSendK c h k) Q) := by
  unfold stepA expect idle
  rw [show oR c (n + 1) = oR c n + tallyAt (dcell (nxt c) (agR h)) () N from by rw [← hr]; rfl]
  iintro ⟨#HR, Hx, ⟨Ht1, Ht2, Hd⟩, Hi, HO⟩ Hk
  iapply (wp_agSend m K c h i j hi hj (oR c n) k Q) $$ [Hx Ht1 Ht2 Hd HO]
  · isplitr; · iexact HR
    isplitl [Hx]; · iexact Hx
    isplitl [Hd]; · iexact Hd
    isplitl [HO]; · iexact HO
    isplitl [Ht1] <;> iassumption
  iintro ⟨Hl, Hc, HO⟩
  iapply Hk
  isplitl [Hl]; · iexact Hl
  isplitr [HO]; · isplitl [Hc] <;> iassumption
  iexact HO

theorem wp_sendB (h : Fin 3) (i j : Fin 13) (hi : csem i = .dma (rsS h)) (hj : csem j = .dma (rsR h)) (n : ℕ) (hr : rcvS n = rsR h)
    (k : P F) (Q : PUnit.{1} → sProp 𝕄) :
    iprop(records m K ∗ own c (paAt (rk c h)) fullShare (AV m h.val c) ∗ stepB c h ∗ idle c (rsS h) ∗ owesE c (oR c (n + 1)))
      ⊢ iprop((iprop(expect c (rsS h) ∗ owesE c (oR c n)) -∗ wpD c k Q) -∗ wpD c (rsSendK c h k) Q) := by
  unfold stepB expect idle
  rw [show oR c (n + 1) = oR c n + tallyAt (dcell (nxt c) (rsR h)) () N from by rw [← hr]; rfl]
  iintro ⟨#HR, Hx, ⟨Ht1, Ht2, Hd⟩, Hi, HO⟩ Hk
  iapply (wp_rsSend m K c h i j hi hj (oR c n) k Q) $$ [Hx Ht1 Ht2 Hd HO]
  · isplitr; · iexact HR
    isplitl [Hx]; · iexact Hx
    isplitl [Hd]; · iexact Hd
    isplitl [HO]; · iexact HO
    isplitl [Ht1] <;> iassumption
  iintro ⟨Hc, HO⟩
  iapply Hk
  isplitr [HO]; · isplitl [Hc] <;> iassumption
  iexact HO

/-- Both neighbours told, both heard: the places on the next device come with its word. -/
theorem wp_barrier (k : P F) (Q : PUnit.{1} → sProp 𝕄) :
    iprop(records m K ∗ levAts L lv ∗ cred (tallyAt (barCell c) () 2) ∗ atPos ER (barCell c) 0 ∅ 0
        ∗ dutyTok ER (barCell (prv c)) 0 true ∗ dutyTok ER (barCell (nxt c)) 0 false ∗ places c ∗ owesE c (O₀ c))
      ⊢ iprop((iprop(owesE c (oR c 6) ∗ semVal (barCell c) 0 ∗ places (nxt c)) -∗ wpD c k Q) -∗ wpD c (barrierK c k) Q) := by
  unfold barrierK owesE O₀ O₁
  rw [nxtK_eq, prvK_eq]
  iintro ⟨#HR, #HL, Hc, Hat, Ht1, Ht2, Hp, ⟨%W, HO⟩⟩ Hk
  ihave #HIc := (inv_at m K (c, 0)) $$ HR
  ihave #HIp := (inv_at m K (prv c, 0)) $$ HR
  ihave #HIn := (inv_at m K (nxt c, 0)) $$ HR
  ihave #HRp := (reached_at m K (prv c, 0)) $$ HR
  ihave #HRn := (reached_at m K (nxt c, 0)) $$ HR
  iapply (Rounds.wp_signal 𝒱₀ ER (rd m) (c : Thread nD τ) none (dst := (prv c : Thread nD τ)) (κ := K (prv c, 0)) (r := 0)
      (d := true) (Finset.mem_univ _) rfl () (oR c 6 + tallyAt (barCell (nxt c)) () 1) rfl) $$ [HO Ht1 Hp]
  · isplitr; · iexact HIp
    isplitl [HO]; · iexact HO
    isplitl [Ht1]; · iexact Ht1
    isplitl [Hp]
    · iapply (Entails.of_eq (show places c = (rd m).payload (barCell (prv c)) 0 true from by
        show places c = places (nxt (prv c))
        rw [nxt_prv]))
      iexact Hp
    iexact HRp
  iintro HO
  iapply (Rounds.wp_signal 𝒱₀ ER (rd m) (c : Thread nD τ) none (dst := (nxt c : Thread nD τ)) (κ := K (nxt c, 0)) (r := 0)
      (d := false) (Finset.mem_univ _) rfl () (oR c 6) rfl) $$ [HO Ht2]
  · isplitr; · iexact HIn
    isplitl [HO]; · iexact HO
    isplitl [Ht2]; · iexact Ht2
    isplitr
    · iapply (Entails.of_eq (show iprop(emp) = (rd m).payload (barCell (nxt c)) 0 false from rfl))
      iempintro
    iexact HRn
  iintro HO
  iapply (Rounds.wp_wait_rest_token 𝒱₀ ER (rd m) (c : Thread nD τ) none (κ := K (c, 0))
      (wpE_semWait_eq 𝒱₀ (c : Thread nD τ) none Set.univ) (Set.mem_univ _) () (O := oR c 6) (W := W) (R := 0) (m := 0) (T := ∅)
      (by rw [expect_bar])) $$ [Hc HO Hat]
  · isplitr; · iexact HIc
    isplitl [Hc]; · iexact Hc
    isplitl [HO]; · iexact HO
    isplitr; · iapply (mayWait c (.reg barS) 6 (by omega) (by decide)); iexact HL
    iexact Hat
  iintro ⟨HO, Hat, -, Hpay⟩
  ihave Hp := (Entails.of_eq (rest_bar m c)) $$ Hpay
  icases Hp with ⟨-, Hp⟩
  imod (Rounds.cell_close ER (rd m) (Set.mem_univ (K (c, 0))) (fun h => h) (R := 0 + 1) (duties_later m (barCell c))) $$ [Hat] with Hz
  · isplitr; · iexact HIc
    iexact Hat
  iapply Hk
  isplitl [HO]; · iexists _; iexact HO
  isplitl [Hz]; · iexact Hz
  iexact Hp

/-! ## The chunks and the rings -/

/-- What the attention of a chunk reads besides the chunk. -/
def reads : sProp 𝕄 :=
  iprop(own c wqM fullShare (wqstg m c) ∗ own c woM fullShare (wostg m c)
    ∗ own c kpM fullShare (packX (kvX m c false) c) ∗ own c vpM fullShare (packX (kvX m c true) c) ∗ ownEx c qM ∗ ownEx c ctxM)

theorem wp_chunk (o : Fin 2 → ℕ) (ho : ∀ a, o a + S256x1024.size a ≤ S1024x1024.size a) (j : Dev nD) (hj : o = cOff j)
    (q : PosShare TreeShare) (k : P F) (Q : PUnit.{1} → sProp 𝕄) :
    iprop(own c (xgAt j) q (XV m j) ∗ reads m c ∗ ownEx c (paAt j))
      ⊢ iprop((iprop(own c (xgAt j) q (XV m j) ∗ reads m c ∗ own c (paAt j) fullShare (Pp m c j)) -∗ wpD c k Q)
        -∗ wpD c (computeK o ho k) Q) := by
  unfold reads
  iintro ⟨Hx, ⟨H1, H2, H3, H4, H5, H6⟩, Hp⟩ Hk
  iapply (wp_computeAt m c o ho j hj q k Q) $$ [Hx H1 H2 H3 H4 H5 H6 Hp]
  · isplitl [Hx]; · iexact Hx
    isplitl [H1]; · iexact H1
    isplitl [H2]; · iexact H2
    isplitl [H3]; · iexact H3
    isplitl [H4]; · iexact H4
    isplitl [H5]; · iexact H5
    isplitl [H6] <;> iassumption
  iintro ⟨Hx, H1, H2, H3, H4, H5, H6, Hp⟩
  iapply Hk
  isplitl [Hx]; · iexact Hx
  isplitr [Hp]; rotate_left; · iexact Hp
  isplitl [H1]; · iexact H1
  isplitl [H2]; · iexact H2
  isplitl [H3]; · iexact H3
  isplitl [H4]; · iexact H4
  isplitl [H5] <;> iassumption

/-- Before the first chunk's attention. -/
def mid : sProp 𝕄 :=
  iprop(owesE c (oR c 5) ∗ own c (xgAt c) fullShare.left (XV m c) ∗ expect c (agS 0)
    ∗ (stepA c 1 ∗ stepA c 2) ∗ (stepB c 0 ∗ stepB c 1 ∗ stepB c 2)
    ∗ (idle c (agS 1) ∗ idle c (agS 2)) ∗ (idle c (rsS 0) ∗ idle c (rsS 1) ∗ idle c (rsS 2))
    ∗ (expect c (agR 0) ∗ expect c (agR 1) ∗ expect c (agR 2)) ∗ (expect c (rsR 0) ∗ expect c (rsR 1) ∗ expect c (rsR 2))
    ∗ reads m c ∗ (ownEx c (paAt c) ∗ ownEx c (paAt (prv c)) ∗ ownEx c (paAt (opp c)) ∗ ownEx c (paAt (nxt c))) ∗ ownEx c outM)

/-- After the last step. -/
def fin : sProp 𝕄 :=
  iprop(owesE c 0 ∗ reads m c ∗ own c outM fullShare (AV m 3 c)
    ∗ (own c (xgAt c) fullShare (XV m c) ∗ own c (xgAt (prv c)) fullShare (XV m (prv c)) ∗ own c (xgAt (opp c)) fullShare (XV m (opp c))
      ∗ own c (xgAt (nxt c)) fullShare (XV m (nxt c)))
    ∗ (own c (paAt c) fullShare (AV m 3 c) ∗ own c (paAt (prv c)) fullShare (AV m 0 c) ∗ own c (paAt (opp c)) fullShare (AV m 1 c)
      ∗ own c (paAt (nxt c)) fullShare (AV m 2 c))
    ∗ (rsRPay m c 0 ∗ rsRPay m c 1 ∗ rsRPay m c 2)
    ∗ (closed c (agS 0) ∗ closed c (agS 1) ∗ closed c (agS 2)) ∗ (closed c (agR 0) ∗ closed c (agR 1) ∗ closed c (agR 2))
    ∗ (closed c (rsS 0) ∗ closed c (rsS 1) ∗ closed c (rsS 2)) ∗ (closed c (rsR 0) ∗ closed c (rsR 1) ∗ closed c (rsR 2)))

set_option maxHeartbeats 3000000 in
theorem wp_main (k : P F) (Q : PUnit.{1} → sProp 𝕄) :
    iprop(records m K ∗ levAts L lv ∗ mid m c) ⊢ iprop((fin m c -∗ wpD c k Q) -∗ wpD c (mainK c k) Q) := by
  unfold mid mainK
  iintro ⟨#HR, #HL, HO, Hx0, HeS0, ⟨HA1, HA2⟩, ⟨HB0, HB1, HB2⟩, ⟨HiA1, HiA2⟩, ⟨HiB0, HiB1, HiB2⟩, ⟨HeA0, HeA1, HeA2⟩, ⟨HeB0, HeB1, HeB2⟩,
    Hre, ⟨Hp0, Hp1, Hp2, Hp3⟩, Hout⟩ Hk
  iapply (wp_chunk m c (k0_off65 c) (k0_off65_inb c) c (off65_chunk c) fullShare.left _ Q) $$ [Hx0 Hre Hp0]
  · isplitl [Hx0]; · iexact Hx0
    isplitl [Hre]; · iexact Hre
    iexact Hp0
  iintro ⟨Hx0, Hre, Hp0⟩
  iapply (wp_agRecv m K c 0 4 rfl 5 (by omega) (by decide) _ Q) $$ [HeA0 HO]
  · isplitr; · iexact HR
    isplitr; · iexact HL
    isplitl [HeA0]; · iexact HeA0
    iexact HO
  iintro ⟨HO, HzA0, Hx1⟩
  iapply (wp_sendA m K c 1 2 5 rfl rfl 4 rfl _ Q) $$ [Hx1 HA1 HiA1 HO]
  · isplitr; · iexact HR
    isplitl [Hx1]; · iexact Hx1
    isplitl [HA1]; · iexact HA1
    isplitl [HiA1]; · iexact HiA1
    iexact HO
  iintro ⟨Hx1, HeS1, HO⟩
  iapply (wp_chunk m c (k0_off67 c 3#32) (k0_off67_inb c 2) (prv c) (off67_chunk c 2) fullShare.left _ Q) $$ [Hx1 Hre Hp1]
  · isplitl [Hx1]; · iexact Hx1
    isplitl [Hre]; · iexact Hre
    iexact Hp1
  iintro ⟨Hx1, Hre, Hp1⟩
  iapply (wp_sendB m K c 0 7 10 rfl rfl 3 rfl _ Q) $$ [Hp1 HB0 HiB0 HO]
  · isplitr; · iexact HR
    isplitl [Hp1]; · iexact Hp1
    isplitl [HB0]; · iexact HB0
    isplitl [HiB0]; · iexact HiB0
    iexact HO
  iintro ⟨HdB0, HO⟩
  iapply (wp_agRecv m K c 1 5 rfl 3 (by omega) (by decide) _ Q) $$ [HeA1 HO]
  · isplitr; · iexact HR
    isplitr; · iexact HL
    isplitl [HeA1]; · iexact HeA1
    iexact HO
  iintro ⟨HO, HzA1, Hx2⟩
  iapply (wp_sendA m K c 2 3 6 rfl rfl 2 rfl _ Q) $$ [Hx2 HA2 HiA2 HO]
  · isplitr; · iexact HR
    isplitl [Hx2]; · iexact Hx2
    isplitl [HA2]; · iexact HA2
    isplitl [HiA2]; · iexact HiA2
    iexact HO
  iintro ⟨Hx2, HeS2, HO⟩
  iapply (wp_chunk m c (k0_off67 c 2#32) (k0_off67_inb c 1) (opp c) (off67_chunk c 1) fullShare.left _ Q) $$ [Hx2 Hre Hp2]
  · isplitl [Hx2]; · iexact Hx2
    isplitl [Hre]; · iexact Hre
    iexact Hp2
  iintro ⟨Hx2, Hre, Hp2⟩
  iapply (wp_rsRecv m K c 0 10 rfl 2 (by omega) (by decide) _ Q) $$ [HeB0 HO]
  · isplitr; · iexact HR
    isplitr; · iexact HL
    isplitl [HeB0]; · iexact HeB0
    iexact HO
  iintro ⟨HO, HzB0, Hs0⟩
  iapply (wp_acc m c 0 _ Q) $$ [Hp2 Hs0]
  · isplitl [Hp2]; · iexact Hp2
    iexact Hs0
  iintro ⟨Hp2, Hs0⟩
  iapply (wp_sendB m K c 1 8 11 rfl rfl 1 rfl _ Q) $$ [Hp2 HB1 HiB1 HO]
  · isplitr; · iexact HR
    isplitl [Hp2]; · iexact Hp2
    isplitl [HB1]; · iexact HB1
    isplitl [HiB1]; · iexact HiB1
    iexact HO
  iintro ⟨HdB1, HO⟩
  iapply (wp_agRecv m K c 2 6 rfl 1 (by omega) (by decide) _ Q) $$ [HeA2 HO]
  · isplitr; · iexact HR
    isplitr; · iexact HL
    isplitl [HeA2]; · iexact HeA2
    iexact HO
  iintro ⟨HO, HzA2, Hx3⟩
  iapply (wp_chunk m c (k0_off67 c 1#32) (k0_off67_inb c 0) (nxt c) (off67_chunk c 0) fullShare _ Q) $$ [Hx3 Hre Hp3]
  · isplitl [Hx3]; · iexact Hx3
    isplitl [Hre]; · iexact Hre
    iexact Hp3
  iintro ⟨Hx3, Hre, Hp3⟩
  iapply (wp_rsRecv m K c 1 11 rfl 1 (by omega) (by decide) _ Q) $$ [HeB1 HO]
  · isplitr; · iexact HR
    isplitr; · iexact HL
    isplitl [HeB1]; · iexact HeB1
    iexact HO
  iintro ⟨HO, HzB1, Hs1⟩
  iapply (wp_acc m c 1 _ Q) $$ [Hp3 Hs1]
  · isplitl [Hp3]; · iexact Hp3
    iexact Hs1
  iintro ⟨Hp3, Hs1⟩
  iapply (wp_sendB m K c 2 9 12 rfl rfl 0 rfl _ Q) $$ [Hp3 HB2 HiB2 HO]
  · isplitr; · iexact HR
    isplitl [Hp3]; · iexact Hp3
    isplitl [HB2]; · iexact HB2
    isplitl [HiB2]; · iexact HiB2
    iexact HO
  iintro ⟨HdB2, HO⟩
  iapply (wp_rsRecv m K c 2 12 rfl 0 (by omega) (by decide) _ Q) $$ [HeB2 HO]
  · isplitr; · iexact HR
    isplitr; · iexact HL
    isplitl [HeB2]; · iexact HeB2
    iexact HO
  iintro ⟨HO, HzB2, Hs2⟩
  iapply (wp_acc m c 2 _ Q) $$ [Hp0 Hs2]
  · isplitl [Hp0]; · iexact Hp0
    iexact Hs2
  iintro ⟨Hp0, Hs2⟩
  iapply (wp_out c (AV m 3 c) _ Q) $$ [Hp0 Hout]
  · isplitl [Hp0]; · iexact Hp0
    iexact Hout
  iintro ⟨Hp0, Hout⟩
  iapply (wp_agDone m K c 0 1 rfl (by decide) _ Q) $$ [HeS0 Hx0 HO]
  · isplitr; · iexact HR
    isplitr; · iexact HL
    isplitl [HeS0]; · iexact HeS0
    isplitl [Hx0]; · iexact Hx0
    iexact HO
  iintro ⟨HO, HyA0, Hx0⟩
  iapply (wp_agDone m K c 1 2 rfl (by decide) _ Q) $$ [HeS1 Hx1 HO]
  · isplitr; · iexact HR
    isplitr; · iexact HL
    isplitl [HeS1]; · iexact HeS1
    isplitl [Hx1]; · iexact Hx1
    iexact HO
  iintro ⟨HO, HyA1, Hx1⟩
  iapply (wp_agDone m K c 2 3 rfl (by decide) _ Q) $$ [HeS2 Hx2 HO]
  · isplitr; · iexact HR
    isplitr; · iexact HL
    isplitl [HeS2]; · iexact HeS2
    isplitl [Hx2]; · iexact Hx2
    iexact HO
  iintro ⟨HO, HyA2, Hx2⟩
  iapply (wp_rsDone m K c 0 7 rfl (by decide) _ Q) $$ [HdB0 HO]
  · isplitr; · iexact HR
    isplitr; · iexact HL
    isplitl [HdB0]; · iexact HdB0
    iexact HO
  iintro ⟨HO, HyB0, Hp1⟩
  iapply (wp_rsDone m K c 1 8 rfl (by decide) _ Q) $$ [HdB1 HO]
  · isplitr; · iexact HR
    isplitr; · iexact HL
    isplitl [HdB1]; · iexact HdB1
    iexact HO
  iintro ⟨HO, HyB1, Hp2⟩
  iapply (wp_rsDone m K c 2 9 rfl (by decide) _ Q) $$ [HdB2 HO]
  · isplitr; · iexact HR
    isplitr; · iexact HL
    isplitl [HdB2]; · iexact HdB2
    iexact HO
  iintro ⟨HO, HyB2, Hp3⟩
  iapply Hk
  unfold fin
  isplitl [HO]; · iexact HO
  isplitl [Hre]; · iexact Hre
  isplitl [Hout]; · iexact Hout
  isplitl [Hx0 Hx1 Hx2 Hx3]
  · isplitl [Hx0]; · iexact Hx0
    isplitl [Hx1]; · iexact Hx1
    isplitl [Hx2]; · iexact Hx2
    iexact Hx3
  isplitl [Hp0 Hp1 Hp2 Hp3]
  · isplitl [Hp0]; · iexact Hp0
    isplitl [Hp1]; · iexact Hp1
    isplitl [Hp2]; · iexact Hp2
    iexact Hp3
  isplitl [Hs0 Hs1 Hs2]
  · isplitl [Hs0]; · iexact Hs0
    isplitl [Hs1]; · iexact Hs1
    iexact Hs2
  isplitl [HyA0 HyA1 HyA2]
  · isplitl [HyA0]; · iexact HyA0
    isplitl [HyA1]; · iexact HyA1
    iexact HyA2
  isplitl [HzA0 HzA1 HzA2]
  · isplitl [HzA0]; · iexact HzA0
    isplitl [HzA1]; · iexact HzA1
    iexact HzA2
  isplitl [HyB0 HyB1 HyB2]
  · isplitl [HyB0]; · iexact HyB0
    isplitl [HyB1]; · iexact HyB1
    iexact HyB2
  isplitl [HzB0]; · iexact HzB0
  isplitl [HzB1]; · iexact HzB1
  iexact HzB2

end Cert.KernelIdeal.Att

end
-- ==== Proof.KernelIdeal.Whole.lean ====
/-
# The whole body

From what the launch gives a device to what it ends with, over the body as printed.
-/
module

public import proofs.«01_k».proof.Proof.KernelIdeal.Body

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- The thirteen semaphores, one by one. -/
theorem bigSep_sems (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [bigSep_univ_eq_bigSepL [0, 1, 2, 3, 4, 5, 6, 7, 8, 9, 10, 11, 12] (by decide) (by decide), bigSepL_cons_cons, bigSepL_cons_cons,
    bigSepL_cons_cons, bigSepL_cons_cons, bigSepL_cons_cons, bigSepL_cons_cons, bigSepL_cons_cons, bigSepL_cons_cons, bigSepL_cons_cons,
    bigSepL_cons_cons, bigSepL_cons_cons, bigSepL_cons_cons, bigSepL_singleton]
  rfl

variable (m : (ℓ : Loc nD τ sig) → Buf (Elt F) ℓ) (K : Dev nD × Fin 13 → ℕ) (c : Dev nD)

/-- The staging buffers as the body finds them, -/
def windows : sProp 𝕄 :=
  iprop(own c xM fullShare (xstg m c) ∗ own c wqM fullShare (wqstg m c) ∗ own c woM fullShare (wostg m c) ∗ ownEx c outM)
/-- and as it leaves them. -/
def windowsAfter : sProp 𝕄 :=
  iprop(own c xM fullShare (xstg m c) ∗ own c wqM fullShare (wqstg m c) ∗ own c woM fullShare (wostg m c) ∗ own c outM fullShare (AV m 3 c))

/-- The gathered rows, the partial products and the receive buffer in their pieces. -/
theorem xg_split : (ownEx c xgM : sProp 𝕄) ⊢ iprop(ownEx c (xgAt c) ∗ ownEx c (xgAt (prv c)) ∗ ownEx c (xgAt (opp c)) ∗ ownEx c (xgAt (nxt c))) :=
  (chunks_split c xgM).trans (Entails.of_eq (bigSep_ring c (fun k => ownEx c (xgAt k))))
theorem part_split : (ownEx c partM : sProp 𝕄) ⊢ iprop(ownEx c (paAt c) ∗ ownEx c (paAt (prv c)) ∗ ownEx c (paAt (opp c)) ∗ ownEx c (paAt (nxt c))) :=
  (chunks_split c partM).trans (Entails.of_eq (bigSep_ring c (fun k => ownEx c (paAt k))))
theorem rs_split : (ownEx c rsM : sProp 𝕄) ⊢ iprop(ownEx c (slotV 0) ∗ ownEx c (slotV 1) ∗ ownEx c (slotV 2)) :=
  (slots_split c).trans (Entails.of_eq (bigSep_three (fun s => ownEx c (slotV s))))

/-- The scratch buffers once more, from what the last step leaves. -/
theorem scratch_join :
    iprop((own c (xgAt c) fullShare (XV m c) ∗ own c (xgAt (prv c)) fullShare (XV m (prv c)) ∗ own c (xgAt (opp c)) fullShare (XV m (opp c))
        ∗ own c (xgAt (nxt c)) fullShare (XV m (nxt c))))
      ⊢ (ownEx c xgM : sProp 𝕄) :=
  (Entails.of_eq (bigSep_ring c (fun k => own c (xgAt k) fullShare (XV m k))).symm).trans (chunks_join c xgM (XV m))

theorem ring_ne (c : Dev nD) : prv c ≠ c ∧ opp c ≠ c ∧ opp c ≠ prv c ∧ nxt c ≠ c ∧ nxt c ≠ prv c ∧ nxt c ≠ opp c := by
  revert c; decide

/-- The partial sums a device's chunks hold at the end. -/
def lastSum (k : Dev nD) : Vec F S256x1024 .f32 :=
  if k = c then AV m 3 c else if k = prv c then AV m 0 c else if k = opp c then AV m 1 c else AV m 2 c

theorem part_join :
    iprop((own c (paAt c) fullShare (AV m 3 c) ∗ own c (paAt (prv c)) fullShare (AV m 0 c) ∗ own c (paAt (opp c)) fullShare (AV m 1 c)
        ∗ own c (paAt (nxt c)) fullShare (AV m 2 c)))
      ⊢ (ownEx c partM : sProp 𝕄) := by
  obtain ⟨n1, n2, n3, n4, n5, n6⟩ := ring_ne c
  have h0 : lastSum m c c = AV m 3 c := if_pos rfl
  have h1 : lastSum m c (prv c) = AV m 0 c := by
    unfold lastSum; rw [if_neg n1, if_pos rfl]
  have h2 : lastSum m c (opp c) = AV m 1 c := by
    unfold lastSum; rw [if_neg n2, if_neg n3, if_pos rfl]
  have h3 : lastSum m c (nxt c) = AV m 2 c := by
    unfold lastSum; rw [if_neg n4, if_neg n5, if_neg n6]
  rw [← h0, ← h1, ← h2, ← h3]
  exact (Entails.of_eq (bigSep_ring c (fun k => own c (paAt k) fullShare (lastSum m c k))).symm).trans (chunks_join c partM (lastSum m c))

theorem rs_join : iprop(rsRPay m c 0 ∗ rsRPay m c 1 ∗ rsRPay m c 2) ⊢ (ownEx c rsM : sProp 𝕄) :=
  (Entails.of_eq (bigSep_three (fun s => rsRPay m c s)).symm).trans (slots_join c (fun s => AV m s.val (prv c)))

set_option maxHeartbeats 4000000 in
theorem sound_flow (k : P F) (Q : PUnit.{1} → sProp 𝕄) :
    iprop(ghost m K c ∗ creds c ∗ levAts L lv ∗ semVal ((c : Thread nD τ), osem 0) 0 ∗ kvHeld m c ∗ scratch c ∗ owesE c (O₀ c) ∗ windows m c)
      ⊢ iprop((iprop(Φ₁ m c ∗ owesE c 0 ∗ windowsAfter m c) -∗ wpD c k Q)
        -∗ wpD c (issuesK c 128 <| barrierK c <| placeK c <| agSendK c 0 <| kvWaitsK c 128 <| mainK c <| k) Q) := by
  unfold ghost creds kvHeld scratch windows
  rw [bigSep_sems, bigSep_sems]
  iintro ⟨⟨#HR, ⟨Ha0, Ha1, Ha2, Ha3, Ha4, Ha5, Ha6, Ha7, Ha8, Ha9, Ha10, Ha11, Ha12⟩, Htp,
    ⟨Ht0, Ht1, Ht2, Ht3, Ht4, Ht5, Ht6, Ht7, Ht8, Ht9, Ht10, Ht11, Ht12⟩⟩, ⟨Hc0, HcA0, HcA1, HcA2, HcB0, HcB1, HcB2⟩, #HL, Hkv, ⟨HK, HV⟩,
    ⟨Hxg, Hq, Hctx, Hpart, Hrs, ⟨%Y0, Hkp⟩, ⟨%Y1, Hvp⟩⟩, HO, ⟨Hx, Hwq, Hwo, Hout⟩⟩ Hk
  ihave Hkv := (Entails.of_eq (show (semVal ((c : Thread nD τ), osem 0) 0 : sProp 𝕄) = semVal ((c : Thread nD τ), .dma kvS) 0 from rfl)) $$ Hkv
  imod (Transfers.batch_alloc' EC (c : Thread nD τ) (sm := .dma kvS) () Nkv (DKV c (kvX m c)) (E := Set.univ)) $$ Hkv with HB
  ihave Hs := (kv_split c (kvX m c) Y0 Y1) $$ [HK HV Hkp Hvp]
  · isplitl [HK]; · iexact HK
    isplitl [HV]; · iexact HV
    isplitl [Hkp]; · iexact Hkp
    iexact Hvp
  icases Hs with ⟨Hready, Hback⟩
  iapply (wp_issues c (kvX m c) 128 (Nat.le_refl _) _ Q) $$ [Hready HB]
  · isplitl [Hready]; · iexact Hready
    iexact HB
  iintro HB
  ihave Hxg := (xg_split c) $$ Hxg
  icases Hxg with ⟨Hg0, Hg1, Hg2, Hg3⟩
  ihave Hrs := (rs_split c) $$ Hrs
  icases Hrs with ⟨Hr0, Hr1, Hr2⟩
  ihave Hpart := (part_split c) $$ Hpart
  iapply (wp_barrier m K c _ Q) $$ [Hc0 Ha0 Htp Ht0 Hg1 Hg2 Hg3 Hr0 Hr1 Hr2 HO]
  · isplitr; · iexact HR
    isplitr; · iexact HL
    isplitl [Hc0]; · iexact Hc0
    isplitl [Ha0]; · iexact Ha0
    isplitl [Htp]; · iexact Htp
    isplitl [Ht0]; · iexact Ht0
    isplitr [HO]; rotate_left; · iexact HO
    unfold places
    isplitl [Hg1]; · iexact Hg1
    isplitl [Hg2]; · iexact Hg2
    isplitl [Hg3]; · iexact Hg3
    isplitl [Hr0]; · iexact Hr0
    isplitl [Hr1]; · iexact Hr1
    iexact Hr2
  unfold places
  iintro ⟨HO, Hzb, ⟨Hn0, Hn1, Hn2, Hm0, Hm1, Hm2⟩⟩
  iapply (wp_place c (xstg m c) _ Q) $$ [Hx Hg0]
  · isplitl [Hx]; · iexact Hx
    iexact Hg0
  iintro ⟨Hx, Hg0⟩
  iapply (wp_sendA m K c 0 1 4 rfl rfl 5 rfl _ Q) $$ [Hg0 Ht1 Ht4 Hn0 Ha1 HO]
  · isplitr; · iexact HR
    isplitl [Hg0]; · iexact Hg0
    isplitl [Ht1 Ht4 Hn0]
    · unfold stepA
      isplitl [Ht1]; · iexact Ht1
      isplitl [Ht4]; · iexact Ht4
      iexact Hn0
    isplitl [Ha1]; · unfold idle; iexact Ha1
    iexact HO
  unfold owesE
  iintro ⟨Hg0, He1, ⟨%W, HO⟩⟩
  iapply (wp_kvWaits c (kvX m c) (levAts L lv) (oR c 5) (mayWait c (.dma kvS) 5 (by omega) (by decide)) 127 (by omega) W _ Q) $$ [HB HO]
  · isplitr; · iexact HL
    isplitl [HB]; · iexact HB
    iexact HO
  iintro ⟨Hd, Hzkv, HO⟩
  ihave Hs := Hback $$ Hd
  icases Hs with ⟨HK, HV, Hkp, Hvp⟩
  iapply (wp_main m K c k Q) $$ [HO Hg0 He1 Ht2 Ht5 Hn1 Ht3 Ht6 Hn2 Ht7 Ht10 Hm0 Ht8 Ht11 Hm1 Ht9 Ht12 Hm2 Ha2 Ha3 Ha7 Ha8 Ha9 HcA0 Ha4 HcA1 Ha5 HcA2 Ha6 HcB0 Ha10 HcB1 Ha11 HcB2 Ha12 Hwq Hwo Hkp Hvp Hq Hctx Hpart Hout]
  · isplitr; · iexact HR
    isplitr; · iexact HL
    unfold mid owesE
    isplitl [HO]; · iexact HO
    isplitl [Hg0]; · iexact Hg0
    isplitl [He1]; · iexact He1
    isplitl [Ht2 Ht5 Hn1 Ht3 Ht6 Hn2]
    · unfold stepA
      isplitl [Ht2 Ht5 Hn1]
      · isplitl [Ht2]; · iexact Ht2
        isplitl [Ht5]; · iexact Ht5
        iexact Hn1
      · isplitl [Ht3]; · iexact Ht3
        isplitl [Ht6]; · iexact Ht6
        iexact Hn2
    isplitl [Ht7 Ht10 Hm0 Ht8 Ht11 Hm1 Ht9 Ht12 Hm2]
    · unfold stepB
      isplitl [Ht7 Ht10 Hm0]
      · isplitl [Ht7]; · iexact Ht7
        isplitl [Ht10]; · iexact Ht10
        iexact Hm0
      isplitl [Ht8 Ht11 Hm1]
      · isplitl [Ht8]; · iexact Ht8
        isplitl [Ht11]; · iexact Ht11
        iexact Hm1
      · isplitl [Ht9]; · iexact Ht9
        isplitl [Ht12]; · iexact Ht12
        iexact Hm2
    unfold idle expect
    isplitl [Ha2 Ha3]
    · isplitl [Ha2]; · iexact Ha2
      iexact Ha3
    isplitl [Ha7 Ha8 Ha9]
    · isplitl [Ha7]; · iexact Ha7
      isplitl [Ha8]; · iexact Ha8
      iexact Ha9
    isplitl [HcA0 Ha4 HcA1 Ha5 HcA2 Ha6]
    · isplitl [HcA0 Ha4]
      · isplitl [HcA0]; · iexact HcA0
        iexact Ha4
      isplitl [HcA1 Ha5]
      · isplitl [HcA1]; · iexact HcA1
        iexact Ha5
      · isplitl [HcA2]; · iexact HcA2
        iexact Ha6
    isplitl [HcB0 Ha10 HcB1 Ha11 HcB2 Ha12]
    · isplitl [HcB0 Ha10]
      · isplitl [HcB0]; · iexact HcB0
        iexact Ha10
      isplitl [HcB1 Ha11]
      · isplitl [HcB1]; · iexact HcB1
        iexact Ha11
      · isplitl [HcB2]; · iexact HcB2
        iexact Ha12
    isplitl [Hwq Hwo Hkp Hvp Hq Hctx]
    · unfold reads
      isplitl [Hwq]; · iexact Hwq
      isplitl [Hwo]; · iexact Hwo
      isplitl [Hkp]; · iexact Hkp
      isplitl [Hvp]; · iexact Hvp
      isplitl [Hq]; · iexact Hq
      iexact Hctx
    isplitl [Hpart]; · iexact Hpart
    iexact Hout
  unfold fin reads closed owesE
  iintro ⟨HO, ⟨Hwq, Hwo, Hkp, Hvp, Hq, Hctx⟩, Hout, Hxg, Hpart, Hrs, ⟨Hz1, Hz2, Hz3⟩, ⟨Hz4, Hz5, Hz6⟩, ⟨Hz7, Hz8, Hz9⟩, ⟨Hz10, Hz11, Hz12⟩⟩
  iapply Hk
  unfold Φ₁ scratch kvHeld windowsAfter
  rw [bigSep_sems]
  isplitr [HO Hx Hwq Hwo Hout]
  · isplitl [Hxg Hq Hctx Hpart Hrs Hkp Hvp]
    · isplitl [Hxg]; · iapply (scratch_join m c); iexact Hxg
      isplitl [Hq]; · iexact Hq
      isplitl [Hctx]; · iexact Hctx
      isplitl [Hpart]; · iapply (part_join m c); iexact Hpart
      isplitl [Hrs]; · iapply (rs_join m c); iexact Hrs
      isplitl [Hkp]; · iexists _; iexact Hkp
      iexists _; iexact Hvp
    isplitr [Hzb HK HV]
    · isplitl [Hzkv]; · iexact Hzkv
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      iexact Hz12
    isplitl [Hzb]; · iexact Hzb
    isplitl [HK]; · iexact HK
    iexact HV
  isplitl [HO]; · iexact HO
  isplitl [Hx]; · iexact Hx
  isplitl [Hwq]; · iexact Hwq
  isplitl [Hwo]; · iexact Hwo
  iexact Hout

/-! ## The body as the pipeline calls it -/

theorem cfg0_N : cfg0.N = 1 := by decide

theorem bigSep_W (Φ : Fin cfg0.W → sProp 𝕄) : bigSep Finset.univ Φ = iprop(Φ (0 : Fin 4) ∗ Φ (1 : Fin 4) ∗ Φ (2 : Fin 4) ∗ Φ (3 : Fin 4)) :=
  bigSep_W0 Φ

def bodyPre : sProp 𝕄 :=
  iprop(Φ₀ m c ∗ (dats m 0 c).owesAt () t0_0.castSucc
    ∗ (∃ d, own c xM fullShare ((dats m 0 c).before (0 : Fin 4) t0_0 d)) ∗ (∃ d, own c wqM fullShare ((dats m 0 c).before (1 : Fin 4) t0_0 d))
    ∗ (∃ d, own c woM fullShare ((dats m 0 c).before (2 : Fin 4) t0_0 d)) ∗ (∃ d, own c outM fullShare ((dats m 0 c).before (3 : Fin 4) t0_0 d)))

def bodyPost : sProp 𝕄 := iprop(Φ₁ m c ∗ (dats m 0 c).owesAt () t0_0.succ ∗ windowsAfter m c)

theorem before_0 (d) : (dats m 0 c).before (0 : Fin 4) t0_0 d = xstg m c := by
  unfold Pipeline.Dat.before; rw [if_pos (fetch0_0 t0_0)]; rfl
theorem before_1 (d) : (dats m 0 c).before (1 : Fin 4) t0_0 d = wqstg m c := by
  unfold Pipeline.Dat.before; rw [if_pos (fetch0_1 t0_0)]; rfl
theorem before_2 (d) : (dats m 0 c).before (2 : Fin 4) t0_0 d = wostg m c := by
  unfold Pipeline.Dat.before; rw [if_pos (fetch0_2 t0_0)]; rfl

set_option maxRecDepth 1000000 in
theorem body_run :
    bodyPre m c ⊢ wpD c (cc0__body (F := F) xM (Memref.isWhole_whole _) wqM (Memref.isWhole_whole _) kM (Memref.isWhole_whole _) vM
        (Memref.isWhole_whole _) woM (Memref.isWhole_whole _) outM (Memref.isWhole_whole _) xgM (Memref.isWhole_whole _) qM
        (Memref.isWhole_whole _) ctxM (Memref.isWhole_whole _) partM (Memref.isWhole_whole _) rsM (Memref.isWhole_whole _) kpM
        (Memref.isWhole_whole _) vpM (Memref.isWhole_whole _) cc0_scratch7 cc0_scratch8 cc0_scratch9 cc0_scratch10 cc0_scratch11)
      (fun _ => bodyPost m c) := by
  rw [body_eq]
  unfold flow wpD
  rw [wp_deviceId]
  unfold bodyPre Φ₀ start Pipeline.Dat.owesAt Pipeline.owesWithin
  rw [show (dats m 0 c).owed t0_0.castSucc = O₀ c from rfl]
  iintro ⟨⟨⟨⟨%K, Hg⟩, Hc, HL, Hkv, Hh⟩, Hscr⟩, ⟨%W, -, HO⟩, ⟨%d0, Hx⟩, ⟨%d1, Hwq⟩, ⟨%d2, Hwo⟩, ⟨%d3, Hout⟩⟩
  rw [before_0, before_1, before_2]
  iapply (sound_flow m K c _ _) $$ [Hg Hc HL Hkv Hh Hscr HO Hx Hwq Hwo Hout]
  · isplitl [Hg]; · iexact Hg
    isplitl [Hc]; · iexact Hc
    isplitl [HL]; · iexact HL
    isplitl [Hkv]; · iexact Hkv
    isplitl [Hh]; · iexact Hh
    isplitl [Hscr]; · iexact Hscr
    isplitl [HO]; · unfold owesE; iexists W; iexact HO
    unfold windows
    isplitl [Hx]; · iexact Hx
    isplitl [Hwq]; · iexact Hwq
    isplitl [Hwo]; · iexact Hwo
    iexists _; iexact Hout
  unfold owesE
  iintro ⟨Hphi, ⟨%W', HO⟩, Hw⟩
  rw [wpD, wp_ret]
  imodintro
  unfold bodyPost Pipeline.Dat.owesAt Pipeline.owesWithin
  rw [show (dats m 0 c).owed t0_0.succ = 0 from rfl]
  isplitl [Hphi]; · iexact Hphi
  isplitl [HO]
  · iexists W'
    isplitr; · ipureintro; exact fun _ _ => Or.inl trivial
    iexact HO
  iexact Hw

set_option maxRecDepth 1000000 in
/-- The pipeline's obligation on the body. -/
theorem body_obligation : Pipeline.BodyObligation (dats m 0 c) (defs₀ (F := F)) 𝒱₀ () Set.univ := fun t => by
  rw [fin_N0 t]
  rw [bigSep_W, bigSep_W]
  exact body_run m c

end Cert.KernelIdeal.Att

end
-- ==== Proof.KernelIdeal.Launch.lean ====
/-
# The launch

Every device's ring semaphores get their invariants together; each device then takes the duties it pays on its
neighbours' cells. The run of the program follows: what each array holds at its end, and that every counter is zero.
-/
module

public import proofs.«01_k».proof.Proof.KernelIdeal.Whole
public import Idealize.ShloMosaic.Lib.Pipeline.CollectiveSegs

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens minted for them -/

theorem ownSemFacts : Pipeline.OwnSemFacts cfg0.spec osem := by decide

theorem csem_injective : Function.Injective csem := by decide

theorem kcell_injective : Function.Injective (kcell : Dev nD × Fin 13 → GSem nD τ sig) := by
  rintro ⟨c, k⟩ ⟨d, l⟩ h
  have h1 : c = d := congrArg (fun g : GSem nD τ sig => g.1.1) h
  have h2 : k = l := csem_injective (congrArg Prod.snd h)
  rw [h1, h2]

def ringCells : Finset (GSem nD τ sig) := Finset.univ.map ⟨kcell, kcell_injective⟩

/-- The duties of a device's own cells: one of every cell, and the barrier's second. -/
def tokOf (cj : Dev nD × Option (Fin 13)) : GSem nD τ sig × ℕ × Bool :=
  match cj.2 with
  | none => (barCell cj.1, 0, true)
  | some k => (kcell (cj.1, k), 0, false)

theorem tokOf_injective : Function.Injective tokOf := by
  rintro ⟨c, i⟩ ⟨d, j⟩ h
  cases i with
  | none =>
    cases j with
    | none =>
      have h1 : c = d := congrArg (fun x : GSem nD τ sig × ℕ × Bool => x.1.1.1) h
      rw [h1]
    | some l => exact absurd (show true = false from congrArg (fun x : GSem nD τ sig × ℕ × Bool => x.2.2) h) (by decide)
  | some k =>
    cases j with
    | none => exact absurd (show false = true from congrArg (fun x : GSem nD τ sig × ℕ × Bool => x.2.2) h) (by decide)
    | some l =>
      have h1 : (c, k) = (d, l) := kcell_injective (congrArg Prod.fst h)
      rw [Prod.mk.injEq] at h1
      rw [h1.1, h1.2]

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-- The tokens of the duties of device `c`'s own cells. -/
def toks (c : Dev nD) : sProp 𝕄 :=
  iprop(dutyTok ER (barCell c) 0 true ∗ bigSep Finset.univ fun k : Fin 13 => dutyTok ER (kcell (c, k)) 0 false)

/-- The tokens of the duties device `c` pays. -/
def payToks (c : Dev nD) : sProp 𝕄 :=
  iprop(dutyTok ER (barCell (prv c)) 0 true ∗ bigSep Finset.univ fun k : Fin 13 => dutyTok ER (kcell (tgt c k, k)) 0 false)

theorem bigSep_opt (Φ : Option (Fin 13) → sProp 𝕄) :
    bigSep Finset.univ Φ = iprop(Φ none ∗ bigSep Finset.univ fun k : Fin 13 => Φ (some k)) := by
  rw [bigSep_univ_at _ (none : Option (Fin 13)),
    show (Finset.univ : Finset (Option (Fin 13))).erase none = Finset.univ.map ⟨some, Option.some_injective _⟩ from by decide, bigSep_map]
  rfl

theorem tgt_injective : ∀ k : Fin 13, Function.Injective fun c : Dev nD => tgt c k := by decide

theorem raise_injective : Function.Injective fun ck : Dev nD × Fin 13 => (tgt ck.1 ck.2, ck.2) := by
  rintro ⟨c, k⟩ ⟨d, l⟩ h
  rw [Prod.mk.injEq] at h
  obtain ⟨h1, h2⟩ := h
  have h2 : k = l := h2
  subst h2
  exact congrArg (fun x => (x, k)) (tgt_injective k h1)

/-- A cell's token goes from the device that has the cell to the device that raises it. -/
theorem toks_around : (bigSep Finset.univ fun c : Dev nD => (toks c : sProp 𝕄)) ⊢ bigSep Finset.univ fun c : Dev nD => payToks c := by
  unfold toks payToks
  rw [bigSep_sep', bigSep_sep', bigSep_univ_equiv ringBack (fun c : Dev nD => (dutyTok ER (barCell c) 0 true : sProp 𝕄)),
    ← bigSep_univ_prod (fun ck : Dev nD × Fin 13 => (dutyTok ER (kcell ck) 0 false : sProp 𝕄)),
    ← bigSep_univ_prod (fun ck : Dev nD × Fin 13 => (dutyTok ER (kcell (tgt ck.1 ck.2, ck.2)) 0 false : sProp 𝕄)),
    bigSep_univ_equiv (Equiv.ofBijective _ (Finite.injective_iff_bijective.mp raise_injective))
      (fun ck : Dev nD × Fin 13 => (dutyTok ER (kcell ck) 0 false : sProp 𝕄))]
  exact .rfl

variable (m : (ℓ : Loc nD τ sig) → Buf (Elt F) ℓ) (ρ : Dev nD → PrngReg)

theorem share_eq (c : Dev nD) (w : Fin cfg0.W) : (dats m 0 c).share w = fullShare := by unfold Pipeline.Dat.share; split <;> rfl

/-- What the launch deals to device `c`, -/
def G (c : Dev nD) : sProp 𝕄 :=
  iprop((bigSep Finset.univ fun k : Fin 13 => roundState ER (rd m) (kcell (c, k)) 0)
    ∗ (bigSep Finset.univ fun k : Fin 13 => iprop(atPos ER (kcell (c, k)) 0 ∅ 0 ∗ reached ER (kcell (c, k)) 0)) ∗ toks c)

/-- and what the devices make of it together. -/
def G' (c : Dev nD) : sProp 𝕄 := iprop((∃ K, ghost m K c) ∗ semVal ((c : Thread nD τ), osem 0) 0)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun k : Fin 13 => Φ (kcell (c, k)) := by
    unfold ringCells
    rw [bigSep_map, bigSep_univ_prod]
    rfl
  have hT : bigSep ringToks (fun x => (dutyTok ER x.1 x.2.1 x.2.2 : sProp 𝕄)) = bigSep Finset.univ fun c : Dev nD => toks c := by
    unfold ringToks
    rw [bigSep_map, bigSep_univ_prod]
    exact bigSep_congr fun c _ => by
      unfold toks
      rw [bigSep_opt]
      rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  simp only [bigSep_sep']
  isplitl [Hst']; · iexact Hst'
  isplitl [Hat' Hr']
  · isplitl [Hat']; · iexact Hat'
    iexact Hr'
  iexact Htok'

/-! ## The semaphores' values -/

theorem ownSems0_eq (c : Dev nD) :
    (Pipeline.ownSems0 (Ix := Unit) (Name := ℕ) (U := UU) (Lvl := ℕ) (Val := Elt F) (τ := τ) osem c : sProp 𝕄)
      = bigSep Finset.univ fun k : Fin 13 => semVal ((c : Thread nD τ), osem k) 0 := by
  rw [bigSep_univ_eq_bigSepL [0, 1, 2, 3, 4, 5, 6, 7, 8, 9, 10, 11, 12] (by decide) (by decide)]
  exact Pipeline.ownSems0_eq_of_list c osem [0, 1, 2, 3, 4, 5, 6, 7, 8, 9, 10, 11, 12] (by decide) (by decide)

theorem unscopedSems0_eq (c : Dev nD) : (unscopedSems0 c : sProp 𝕄) = semVal (barCell c) 0 := by
  unfold unscopedSems0
  rw [bigSep_eq_bigSepL_of_eq [SemLoc.reg barS] (by decide) (by decide)]
  rfl

/-- The ring's cells have their values; the copies' semaphore keeps its own. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 13 => semVal (kcell (c, k)) 0) ∗ semVal ((c : Thread nD τ), osem 0) 0) : sProp 𝕄) := by
  rw [ownSems0_eq, unscopedSems0_eq, bigSep_univ_at (fun k : Fin 13 => semVal ((c : Thread nD τ), osem k) 0) 0,
    bigSep_univ_at (fun k : Fin 13 => semVal (kcell (c, k)) 0) 0]
  have hE : (bigSep (Finset.univ.erase (0 : Fin 13)) fun k => (semVal ((c : Thread nD τ), osem k) 0 : sProp 𝕄))
      = bigSep (Finset.univ.erase (0 : Fin 13)) fun k => semVal (kcell (c, k)) 0 :=
    bigSep_congr fun k hk => by
      have h : osem k = csem k := by
        revert k
        decide
      rw [h]
  rw [hE]
  iintro ⟨⟨HK, HE⟩, HB⟩
  isplitr [HK]
  · isplitl [HB]; · iexact HB
    iexact HE
  iexact HK

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c
          ∗ semVal ((c : Thread nD τ), osem 0) 0) := by
  unfold G
  iintro ⟨Hos, Hus, Hst, Hat, Htok⟩
  ihave Hv := (sems0_eq (F := F) c) $$ [Hos Hus]
  · isplitl [Hos]; · iexact Hos
    iexact Hus
  icases Hv with ⟨Hv, Hkv⟩
  imod (show iprop((bigSep Finset.univ fun k : Fin 13 => semVal (kcell (c, k)) 0) ∗ bigSep Finset.univ fun k : Fin 13 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hkv

/-- What stays with device `c`. -/
def linear (c : Dev nD) : sProp 𝕄 :=
  iprop((bigSep Finset.univ fun k : Fin 13 => atPos ER (kcell (c, k)) 0 ∅ 0) ∗ payToks c ∗ semVal ((c : Thread nD τ), osem 0) 0)

theorem ghost_intro (K : Dev nD × Fin 13 → ℕ) (c : Dev nD) : iprop(records m K ∗ linear c) ⊢ G' m c := by
  unfold linear payToks G' ghost
  iintro ⟨HR, Hat, ⟨Hb, Htk⟩, Hkv⟩
  isplitr [Hkv]
  · iexists K
    isplitl [HR]; · iexact HR
    isplitl [Hat]; · iexact Hat
    isplitl [Hb]; · iexact Hb
    iexact Htk
  iexact Hkv

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c
          ∗ semVal ((c : Thread nD τ), osem 0) 0) : sProp 𝕄)
      ⊢ bigSep Finset.univ (G' m) := by
  rw [bigSep_sep', bigSep_sep', bigSep_sep', ← bigSep_univ_prod (fun ck : Dev nD × Fin 13 => iprop(∃ κ : ℕ, cellInv ER (rd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, #HR⟩, Htok, Hkv⟩
  ihave HK := (BI.bigSep_exists_pi Finset.univ (fun (ck : Dev nD × Fin 13) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records
    isplitl; · iexact HI
    iexact HR
  · unfold linear
    rw [bigSep_sep', bigSep_sep']
    isplitl [Hat]; · iexact Hat
    isplitl [Htk]; · iexact Htk
    iexact Hkv

/-- Every device's semaphores at once. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## What the others owe a device at the launch -/

/-- The credits of the last `n` steps' receipts. -/
def recvCreds (c : Dev nD) : ℕ → sProp 𝕄
  | 0 => iprop(emp)
  | n + 1 => iprop(recvCreds c n ∗ cred (tallyAt (dcell c (rcvS n)) () N))

theorem launch_recv (c : Dev nD) : ∀ n : ℕ, (Pipeline.launchCred (fun d => oR d n) c : sProp 𝕄) ⊢ recvCreds c n
  | 0 => Entails.of_eq (Pipeline.launchCred_zero c)
  | n + 1 => by
    refine (Entails.of_eq (Pipeline.launchCred_add (fun d => oR d n) (fun d => tallyAt (dcell (nxt d) (rcvS n)) () N) c)).trans ?_
    exact BIClass.sep_mono (launch_recv c n) (Pipeline.launchCred_tallyAt (.dma (rcvS n)) nxt prv nxt_prv prv_nxt () N c)

theorem launch_creds (c : Dev nD) : (Pipeline.launchCred O₀ c : sProp 𝕄) ⊢ creds c := by
  have h : (Pipeline.launchCred O₀ c : sProp 𝕄)
      ⊢ iprop((recvCreds c 6 ∗ cred (tallyAt (barCell c) () 1)) ∗ cred (tallyAt (barCell c) () 1)) := by
    refine (Entails.of_eq (Pipeline.launchCred_add O₁ (fun d => tallyAt (barCell (prv d)) () 1) c)).trans ?_
    refine BIClass.sep_mono ?_ (Pipeline.launchCred_tallyAt (.reg barS) prv nxt prv_nxt nxt_prv () 1 c)
    refine (Entails.of_eq (Pipeline.launchCred_add (fun d => oR d 6) (fun d => tallyAt (barCell (nxt d)) () 1) c)).trans ?_
    exact BIClass.sep_mono (launch_recv c 6) (Pipeline.launchCred_tallyAt (.reg barS) nxt prv nxt_prv prv_nxt () 1 c)
  refine h.trans ?_
  have hb : (iprop(cred (tallyAt (barCell c) () 1) ∗ cred (tallyAt (barCell c) () 1)) : sProp 𝕄) ⊢ cred (tallyAt (barCell c) () 2) :=
    (cred_add _ _).2.trans (Entails.of_eq (congrArg cred (tallyAt_add _ _ _ _)))
  show (iprop((((((((emp ∗ cred (tallyAt (dcell c (rsR 2)) () N)) ∗ cred (tallyAt (dcell c (rsR 1)) () N)) ∗ cred (tallyAt (dcell c (agR 2)) () N))
      ∗ cred (tallyAt (dcell c (rsR 0)) () N)) ∗ cred (tallyAt (dcell c (agR 1)) () N)) ∗ cred (tallyAt (dcell c (agR 0)) () N)) ∗ cred (tallyAt (barCell c) () 1)) ∗ cred (tallyAt (barCell c) () 1)) : sProp 𝕄) ⊢ _
  unfold creds
  iintro ⟨⟨⟨⟨⟨⟨⟨⟨-, H16⟩, H15⟩, H10⟩, H14⟩, H9⟩, H8⟩, HB1⟩, HB2⟩
  isplitl [HB1 HB2]
  · iapply hb
    isplitl [HB1]; · iexact HB1
    iexact HB2
  isplitl [H8]; · iexact H8
  isplitl [H9]; · iexact H9
  isplitl [H10]; · iexact H10
  isplitl [H14]; · iexact H14
  isplitl [H15]; · iexact H15
  iexact H16

/-! ## The keys and the values -/

theorem hbm2_set (b : Bool) : (hbm2 b).view.set = Finset.univ := by
  cases b
  · exact (View.set_reshape _ _).trans (View.set_whole main_arg2)
  · exact (View.set_reshape _ _).trans (View.set_whole main_arg3)

theorem kv_eq (c : Dev nD) (b : Bool) :
    (own c (hbm2 b) fullShare (kvX m c b) : sProp 𝕄)
      = ((hbm2 b).view.loc (c : Thread nD τ) ↦{fullShare} m ((hbm2 b).view.loc (c : Thread nD τ))) := by
  unfold kvX
  rw [own_read_eq, hbm2_set]

theorem kvHeld_eq (c : Dev nD) :
    (kvHeld m c : sProp 𝕄) = iprop((((c : Thread nD τ).loc main_arg2) ↦{fullShare} m ((c : Thread nD τ).loc main_arg2))
      ∗ (((c : Thread nD τ).loc main_arg3) ↦{fullShare} m ((c : Thread nD τ).loc main_arg3))) := by
  unfold kvHeld
  rw [kv_eq, kv_eq]
  rfl

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold start G'
  rw [kvHeld_eq]
  iintro ⟨Hkv, Hlev, Hcr, -, HG, Hs⟩
  ihave Hc := (launch_creds (F := F) c) $$ Hcr
  ihave Hkv' := (Entails.of_eq (unscopedRest0_eq c (fun b => m ((c : Thread nD τ).loc b)))) $$ Hkv
  imodintro
  isplitl
  · isplitl [HG]; · iexact HG
    isplitl [Hc]; · iexact Hc
    isplitl [Hlev]; · iexact Hlev
    isplitl [Hs]; · iexact Hs
    iexact Hkv'
  · iempintro

theorem scratch_intro (c : Dev nD) : (Pipeline.scopedRest cfg0.spec c : sProp 𝕄) ⊢ scratch c := by
  refine (Entails.of_eq (scopedRest0_eq c)).trans ?_
  unfold scratch
  exact BIClass.sep_mono (own_whole_ex c cc0_scratch0) (BIClass.sep_mono (own_whole_ex c cc0_scratch1) (BIClass.sep_mono (own_whole_ex c cc0_scratch2) (BIClass.sep_mono (own_whole_ex c cc0_scratch3) (BIClass.sep_mono (own_whole_ex c cc0_scratch4) (BIClass.sep_mono (own_whole_ex c cc0_scratch5) (own_whole_ex c cc0_scratch6))))))

theorem own_ex_out (c : Dev nD) (b : Ref sig .tc) :
    (iprop(∃ X, own c (Memref.whole b) fullShare X) : sProp 𝕄)
      ⊢ iprop(∃ f : Buf (Elt F) ((c : Thread nD τ).loc b), ((c : Thread nD τ).loc b) ↦{fullShare} f) :=
  exists_elim fun X => own_whole_out c b X

theorem scratch_out (c : Dev nD) : scratch c ⊢ (Pipeline.scopedRest cfg0.spec c : sProp 𝕄) := by
  refine BIBase.Entails.trans ?_ (Entails.of_eq (scopedRest0_eq c).symm)
  unfold scratch
  exact BIClass.sep_mono (own_ex_out c cc0_scratch0) (BIClass.sep_mono (own_ex_out c cc0_scratch1) (BIClass.sep_mono (own_ex_out c cc0_scratch2) (BIClass.sep_mono (own_ex_out c cc0_scratch3) (BIClass.sep_mono (own_ex_out c cc0_scratch4) (BIClass.sep_mono (own_ex_out c cc0_scratch5) (own_ex_out c cc0_scratch6))))))

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_intro (F := F) c)
  iexact Hr

theorem phi1_exit (c : Dev nD) :
    (dats m 0 c).Φ (Fin.last cfg0.N) ⊢ iprop((unscopedSems0 c ∗ kvHeld m c) ∗ Pipeline.ownSems0 osem c ∗ Pipeline.scopedRest cfg0.spec c) := by
  rw [show (dats m 0 c).Φ (Fin.last cfg0.N) = Φ₁ m c from rfl, ownSems0_eq, unscopedSems0_eq]
  unfold Φ₁
  iintro ⟨Hr, Ho, Hb, Hkv⟩
  isplitl [Hb Hkv]
  · isplitl [Hb]; · iexact Hb
    iexact Hkv
  isplitl [Ho]; · iexact Ho
  iapply (scratch_out (F := F) c)
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- What is read of the final memory beside the windows' arrays: the unscoped counters, the keys and the values. -/
def QY (c : Dev nD) (s : MemSt nD τ sig (Elt F)) : Prop :=
  (∀ sm : SemLoc sig, sm.isScoped .tc = false → s.sem ((c : Thread nD τ), sm) = 0)
    ∧ s.mem ((c : Thread nD τ).loc main_arg2) = m ((c : Thread nD τ).loc main_arg2)
    ∧ s.mem ((c : Thread nD τ).loc main_arg3) = m ((c : Thread nD τ).loc main_arg3)

theorem kv_read (c : Dev nD) (s' : Phys nD τ sig (Elt F)) :
    (iprop(kvHeld m c ∗ SI s') : sProp 𝕄)
      ⊢ iprop(⌜s'.mem.mem ((c : Thread nD τ).loc main_arg2) = m ((c : Thread nD τ).loc main_arg2)
        ∧ s'.mem.mem ((c : Thread nD τ).loc main_arg3) = m ((c : Thread nD τ).loc main_arg3)⌝ ∗ SI s') := by
  have h := pointsTo_read_all (Ix := Unit) (Val := Elt F) (Name := ℕ) (U := UU) (Lvl := ℕ)
    (Finset.univ : Finset Bool) (fun b => (hbm2 b).view.loc (c : Thread nD τ)) (fun b => m ((hbm2 b).view.loc (c : Thread nD τ))) s'
  rw [bigSep_univ_eq_bigSepL [false, true] (by decide) (by decide)] at h
  rw [kvHeld_eq]
  refine BIBase.Entails.trans h ?_
  iintro ⟨%hm, HSI⟩
  isplitr
  · ipureintro
    exact ⟨hm false (Finset.mem_univ _), hm true (Finset.mem_univ _)⟩
  iexact HSI

theorem read_out (c : Dev nD) (s' : Phys nD τ sig (Elt F)) :
    (iprop((unscopedSems0 c ∗ kvHeld m c) ∗ emp ∗ SI s') : sProp 𝕄) ⊢ |={Set.univ}=> iprop(⌜QY m c s'.mem⌝ ∗ SI s') := by
  iintro ⟨⟨Hu, Hkv⟩, -, HSI⟩
  ihave H := (kv_read m c s') $$ [Hkv HSI]
  · isplitl [Hkv]; · iexact Hkv
    iexact HSI
  icases H with ⟨%hkv, HSI⟩
  imod (Pipeline.unscopedSems0_read (X := unscopedSems0 c) (c := c) fupd_intro s') $$ [Hu HSI] with H
  · isplitl [Hu]; · iexact Hu
    iexact HSI
  icases H with ⟨%hs, HSI⟩
  imodintro
  isplitr
  · ipureintro
    exact ⟨hs, hkv.1, hkv.2⟩
  iexact HSI

/-- The launch's element is the pipeline's and the rings'. -/
theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op _)))

/-! ## The run -/

/-- The memory at the launch, every counter zero. -/
def s₀ : MemSt nD τ sig (Elt F) := ⟨m, fun _ => 0, ρ⟩

def finalA (c : Dev nD) (w : Fin cfg0.W) : Buf (Elt F) ((cfg0.win w).arr.view.loc (c : Thread nD τ)) := (dats m 0 c).arrAt w cfg0.N

/-- Every window's array is what the pipeline computes, and the keys and the values are as they were. -/
def QC (r : PUnit.{1} × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

set_option maxRecDepth 100000 in
/-- From any memory with zero counters every fair run of the four devices ends, with the arrays as computed and every
    counter zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(unscopedSems0 c ∗ kvHeld m c)) (Z := fun _ => iprop(emp))
    (hX := start_intro m ρ) (hin := phi0_intro m) (hout := phi1_exit m)
    (QY := QY m) (hY := read_out m)
    (hQ := fun _ h hs => ⟨fun c => ⟨fun w => (h c).1 w, (h c).2.2.2⟩, sem_eq_zero hs fun c => (h c).2.2.1⟩)

/-- An array that is only read holds what it held. -/
theorem finalA_in (c : Dev nD) (w : Fin cfg0.W) (h : (cfg0.win w).isOut = false) :
    finalA m c w = m ((cfg0.win w).arr.view.loc (c : Thread nD τ)) :=
  (dats (F := F) m 0 c).arrAt_in w h _

end Cert.KernelIdeal.Att

end
-- ==== Proof.KernelIdeal.End.lean ====
/-
# What the run ends with

The arguments are as they were and the result of a device is its last sum on the second ring.
-/
module

public import proofs.«01_k».proof.Proof.KernelIdeal.Launch

@[expose] public section

noncomputable section

namespace Cert.KernelIdeal.Att

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The result array, read as the one block it is. -/
theorem finalA_read (c : Dev nD) : (win0_3.blk (0 : Fin 1)).view.read (Elt F) (finalA m c 3) = AV m 3 c := by
  unfold finalA
  rw [show cfg0.N = ((0 : Fin 1) : Fin cfg0.N).val + 1 from rfl, (dats m 0 c).arrAt_succ (3 : Fin 4) (0 : Fin 1),
    show (cfg0.win (3 : Fin 4)).flush (0 : Fin 1) = true from flush0_3 _, if_pos rfl]
  exact View.read_write_univ _ _

/-- The arguments of device `c` are as they were. -/
def Kept (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem run_end : θ_run defs (onTc (τ := τ) (main (F := F))) ⟨m, fun _ => 0, ρ⟩ (fun r =>
    (∀ c : Dev nD, (win0_3.blk (0 : Fin 1)).view.read (Elt F) (r.2.mem ((c : Thread nD τ).loc main_v1)) = AV m 3 c ∧ Kept m r.2 c)
      ∧ r.2.sem = fun _ => 0) :=
  (θ_run defs _ _).mono (fun r h => ⟨fun c => ⟨(congrArg _ ((h.1 c).1 3)).trans (finalA_read m c),
      ((h.1 c).1 0).trans (finalA_in m c 0 rfl), ((h.1 c).1 1).trans (finalA_in m c 1 rfl), (h.1 c).2.1, (h.1 c).2.2,
      ((h.1 c).1 2).trans (finalA_in m c 2 rfl)⟩, h.2⟩) (run_main m ρ)

end Cert.KernelIdeal.Att

end
-- ==== Proof.Value.Softmax.lean ====
/-
# A softmax whose masked scores are -∞

Over the extended reals a masked score is `⊥`: it changes no maximum, its exponential is zero, and so is its
weight where the sum of the exponentials is not zero. So the average over all keys is the average over the kept
keys, in any order.
-/
module

public import Idealize.ShloMosaic.PureOps.Ideal.Laws
public import Idealize.ShloMosaic.Lib.IdealHost

@[expose] public section

noncomputable section

namespace Cert.Attention

open Idealize.ShloMosaic
open scoped BigOperators

variable {ι κ : Type} [Fintype ι] [Fintype κ]

/-- The greatest score, -/
def top (s : ι → EReal) : EReal := Finset.univ.sup s
/-- the sum of the exponentials below it, -/
def mass (s : ι → EReal) : EReal := ∑ i, Ideal.exp (s i - top s)
/-- and the average of `v` by the softmax of the scores. -/
def att (s v : ι → EReal) : EReal := ∑ i, v i * Ideal.div (Ideal.exp (s i - top s)) (mass s)

/-- An exponential is not negative. -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

theorem bot_sub (x : EReal) : (⊥ : EReal) - x = ⊥ := by rw [sub_eq_add_neg, EReal.bot_add]

/-- The greatest of finitely many reals is one of them. -/
theorem top_eq [Nonempty ι] (s : ι → EReal) : ∃ i, top s = s i := by
  obtain ⟨i, _, hi⟩ := Finset.exists_mem_eq_sup (Finset.univ : Finset ι) Finset.univ_nonempty s
  exact ⟨i, hi⟩

/-- The sum of the exponentials of real scores is not zero. -/
theorem mass_ne_zero [Nonempty ι] (s : ι → EReal) (hr : ∀ i, ∃ r : ℝ, s i = (r : EReal)) : mass s ≠ 0 := by
  obtain ⟨i, hi⟩ := top_eq s
  obtain ⟨r, hr⟩ := hr i
  have h1 : Ideal.exp (s i - top s) = ((Real.exp (r - r) : ℝ) : EReal) := by
    rw [hi, hr, ← EReal.coe_sub, Ideal.exp_coe]
  have h2 : 0 < Ideal.exp (s i - top s) := by
    rw [h1]; exact EReal.coe_pos.mpr (Real.exp_pos _)
  exact ne_of_gt (lt_of_lt_of_le h2
    (Finset.single_le_sum (f := fun j => Ideal.exp (s j - top s)) (fun j _ => exp_nonneg _) (Finset.mem_univ i)))

section Pick

variable (e : κ → ι) (he : Function.Injective e) (s v : ι → EReal) (hM : ∀ i, i ∉ Set.range e → s i = ⊥)

include hM in
/-- The masked scores change no maximum, -/
theorem top_pick : top s = top (fun k => s (e k)) := by
  apply le_antisymm
  · refine Finset.sup_le fun i _ => ?_
    by_cases h : i ∈ Set.range e
    · obtain ⟨k, rfl⟩ := h
      exact Finset.le_sup (f := fun k => s (e k)) (Finset.mem_univ k)
    · rw [hM i h]; exact bot_le
  · exact Finset.sup_le fun k _ => Finset.le_sup (f := s) (Finset.mem_univ (e k))

include he hM in
/-- nor the sum, -/
theorem mass_pick : mass s = mass (fun k => s (e k)) := by
  refine (Fintype.sum_of_injective e he _ _ (fun i hi => ?_) (fun k => ?_)).symm
  · rw [hM i hi, bot_sub, Ideal.exp_bot]
  · rw [top_pick e s hM]

include he hM in
/-- nor, where the kept scores are reals, the average. -/
theorem att_pick [Nonempty κ] (hr : ∀ k, ∃ r : ℝ, s (e k) = (r : EReal)) : att s v = att (fun k => s (e k)) (fun k => v (e k)) := by
  refine (Fintype.sum_of_injective e he _ _ (fun i hi => ?_) (fun k => ?_)).symm
  · rw [hM i hi, bot_sub, Ideal.exp_bot, Ideal.zero_div (by rw [mass_pick e he s hM]; exact mass_ne_zero _ hr), mul_zero]
  · rw [top_pick e s hM, mass_pick e he s hM]

end Pick

/-! ## Reals -/

/-- A product and a finite sum of reals are reals. -/
theorem real_mul {a b : EReal} (ha : ∃ r : ℝ, a = (r : EReal)) (hb : ∃ r : ℝ, b = (r : EReal)) : ∃ r : ℝ, a * b = (r : EReal) := by
  obtain ⟨r, rfl⟩ := ha
  obtain ⟨t, rfl⟩ := hb
  exact ⟨r * t, (EReal.coe_mul r t).symm⟩

theorem real_sum (S : Finset ι) (f : ι → EReal) (hf : ∀ i, ∃ r : ℝ, f i = (r : EReal)) : ∃ r : ℝ, ∑ i ∈ S, f i = (r : EReal) := by
  classical
  induction S using Finset.induction_on with
  | empty => exact ⟨0, by simp⟩
  | insert a S ha ih =>
    obtain ⟨r, hr⟩ := hf a
    obtain ⟨t, ht⟩ := ih
    exact ⟨r + t, by rw [Finset.sum_insert ha, hr, ht, EReal.coe_add]⟩

/-- An extended real whose absolute value lies below `⊤` is a real. -/
theorem real_of_abs_lt {a : EReal} (h : max a (-a) < ⊤) : ∃ r : ℝ, a = (r : EReal) := by
  induction a using EReal.rec with
  | bot => exact absurd h (by simp)
  | coe r => exact ⟨r, rfl⟩
  | top => exact absurd h (by simp)

end Cert.Attention

end
-- ==== Proof.Value.KernelAt.lean ====
/-
# The kernel's attention read at an index

One device's attention of one chunk of rows: an element of its partial product is a sum over the device's 1024
columns of the context, each an average over the 1024 gathered keys of the row's class.
-/
module

public import proofs.«01_k».proof.Proof.KernelIdeal.Plan
public import proofs.«01_k».proof.Proof.Value.Softmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.IdealHost

@[expose] public section

set_option maxRecDepth 100000

noncomputable section

namespace Cert.KernelIdeal.Att

open Cert.KernelIdeal Cert.KernelIdeal.Gen Idealize.ShloMosaic Idealize.ShloMosaic.TcCoe
open Idealize.ShloMosaic.ValueIdx Cert.Attention
open scoped BigOperators

/-- The constant the scores are scaled by. -/
def scale : EReal := FloatOps.ofBits (F := Ideal) .f32 0x3DB504F3#32

/-! ## The products -/

/-- The rows times a weight, -/
theorem rows_at (X : FVec Ideal S256x1024 .f32) (W : FVec Ideal S1024x1024 .f32) (r : Fin 256) (e : Fin 1024) :
    (matmul dot_S256x1024_S1024x1024_S256x1024_1_0_0_1_n_n none X W (constant S256x1024 .f32 0x00000000#32)
      : FVec Ideal S256x1024 .f32) (ix2 r e) = ∑ t : Fin 1024, (X (ix2 r t) : EReal) * W (ix2 t e) := by
  refine (Ideal.matmul_plain_apply (M := 256) (K := 1024) (N := 1024) none X W _ r e).trans ?_
  have hz : (constant (F := Ideal) S256x1024 .f32 0x00000000#32 (ix2 r e) : EReal) = 0 := Ideal.ofBits_zero_f32
  exact (congrArg (· + _) hz).trans (zero_add _)

/-- the queries against the keys, -/
theorem scores_at (q : FVec Ideal S64x128 .f32) (k : FVec Ideal S1024x128 .f32) (r : Fin 64) (j : Fin 1024) :
    (matmul dot_S64x128_S1024x128_S64x1024_1_1_0_0_n_n none q k (constant S64x1024 .f32 0x00000000#32)
      : FVec Ideal S64x1024 .f32) (ix2 r j) = ∑ d : Fin 128, (q (ix2 r d) : EReal) * k (ix2 j d) := by
  refine (Ideal.matmul_transposedRhs_apply (M := 64) (K := 128) (N := 1024) none q k _ r j).trans ?_
  have hz : (constant (F := Ideal) S64x1024 .f32 0x00000000#32 (ix2 r j) : EReal) = 0 := Ideal.ofBits_zero_f32
  exact (congrArg (· + _) hz).trans (zero_add _)

/-- and the weights times the values. -/
theorem values_at (p : FVec Ideal S64x1024 .f32) (v : FVec Ideal S1024x128 .f32) (r : Fin 64) (d : Fin 128) :
    (matmul dot_S64x1024_S1024x128_S64x128_1_0_0_1_n_n none p v (constant S64x128 .f32 0x00000000#32)
      : FVec Ideal S64x128 .f32) (ix2 r d) = ∑ j : Fin 1024, (p (ix2 r j) : EReal) * v (ix2 j d) := by
  refine (Ideal.matmul_plain_apply (M := 64) (K := 1024) (N := 128) none p v _ r d).trans ?_
  have hz : (constant (F := Ideal) S64x128 .f32 0x00000000#32 (ix2 r d) : EReal) = 0 := Ideal.ofBits_zero_f32
  exact (congrArg (· + _) hz).trans (zero_add _)

/-! ## The softmax of one block of rows -/

/-- A value of each row, spread along the row. -/
theorem spread_at {α : Type} (x : S64.Idx → α) (r : Fin 64) (j : Fin 1024) :
    broadcastTo S64x1024 (shapeCast S64x1 x shapeCasts_S64_S64x1) broadcasts_S64x1_S64x1024 (ix2 r j) = x (ix1 r) := by
  have hk : ∀ a : Fin 2, ((ix2 r 0 : S64x1.Idx) a).val
      = if S64x1.size a = 1 then 0 else ((ix2 r j : S64x1024.Idx) ⟨a.val + (S64x1024.rank - S64x1.rank), by have := a.isLt; exact this⟩).val :=
    fun a => match a with | ⟨0, _⟩ => rfl | ⟨1, _⟩ => rfl
  refine (broadcastTo_apply _ broadcasts_S64x1_S64x1024 (ix2 r j) (ix2 r 0) hk).trans ?_
  exact shapeCast_a_a1_apply _ _ r 0

/-- The bits of -∞. -/
theorem ofBits_bot : (FloatOps.ofBits (F := Ideal) .f32 0xFF800000#32 : EReal) = ⊥ := by
  show Ideal.ofBits .f32 0xFF800000#32 = ⊥
  simp [Ideal.ofBits, Ideal.ieee]

theorem lift_at (r : Fin 64) (k : Fin 1024) :
    (reduces_S64x1024_S64 : S64x1024.Reduces [1] S64).lift (ix1 r) k = ix2 r k :=
  funext fun a => match a with | ⟨0, _⟩ => rfl | ⟨1, _⟩ => rfl

/-- The greatest score of a row, -/
theorem rowMax_at (s : FVec Ideal S64x1024 .f32) (r : Fin 64) :
    (multiReduction .maximumf [1] S64 s 0xFF800000#32 reduces_S64x1024_S64 (.inl rfl) rfl (ix1 r) : EReal)
      = top fun j : Fin 1024 => (s (ix2 r j) : EReal) := by
  refine (Ideal.multiReduction_maximumf_single s _ reduces_S64x1024_S64 (.inl rfl) rfl (ix1 r)).trans ?_
  have hl : (s ∘ (reduces_S64x1024_S64 : S64x1024.Reduces [1] S64).lift (ix1 r)) = fun j : Fin 1024 => s (ix2 r j) :=
    funext fun j => congrArg s (lift_at r j)
  refine Eq.trans ?_ (show (Finset.univ : Finset (Fin 1024)).fold max (⊥ : EReal) (fun j => (s (ix2 r j) : EReal)) = _ from rfl)
  rw [← ofBits_bot]
  exact congrArg (fun f => Finset.fold max (Ideal.ofBits .f32 0xFF800000#32) f (Finset.univ : Finset (Fin 1024))) hl

/-- and the sum of a row. -/
theorem rowSum_at (s : FVec Ideal S64x1024 .f32) (r : Fin 64) :
    (multiReduction .add [1] S64 s 0x00000000#32 reduces_S64x1024_S64 (.inl rfl) rfl (ix1 r) : EReal)
      = ∑ j : Fin 1024, (s (ix2 r j) : EReal) := by
  refine (Ideal.multiReduction_add_single s _ reduces_S64x1024_S64 (.inl rfl) rfl (ix1 r)).trans ?_
  exact Finset.sum_congr rfl fun j _ => congrArg s (lift_at r j)

/-- One head's attention of one class. -/
theorem pay5_at (q : FVec Ideal S64x128 .f32) (k v : FVec Ideal S1024x128 .f32) (r : Fin 64) (d : Fin 128) :
    (k0_pay5 (F := Ideal) q k v (ix2 r d) : EReal)
      = att (fun j : Fin 1024 => (∑ d : Fin 128, (q (ix2 r d) : EReal) * k (ix2 j d)) * scale)
          (fun j => v (ix2 j d)) := by
  unfold k0_pay5
  rw [shapeCast_self, values_at]
  unfold att mass
  refine Finset.sum_congr rfl fun j _ => ?_
  rw [mul_comm]
  refine congrArg (fun y : EReal => (v (ix2 j d) : EReal) * y) ?_
  have hs : ∀ j : Fin 1024, (mulf (matmul dot_S64x128_S1024x128_S64x1024_1_1_0_0_n_n none q k (constant S64x1024 .f32 0x00000000#32))
      (broadcast S64x1024 (Scalar.ofBits (F := Ideal) .f32 0x3DB504F3#32)) (ix2 r j) : EReal)
        = (∑ d : Fin 128, (q (ix2 r d) : EReal) * k (ix2 j d)) * scale := fun j =>
    congrArg (fun y : EReal => y * scale) (scores_at q k r j)
  rw [divf_apply, spread_at, rowSum_at]
  have he : ∀ j : Fin 1024, (exp (subf (mulf (matmul dot_S64x128_S1024x128_S64x1024_1_1_0_0_n_n none q k (constant S64x1024 .f32 0x00000000#32))
      (broadcast S64x1024 (Scalar.ofBits (F := Ideal) .f32 0x3DB504F3#32)))
      (broadcastTo S64x1024 (shapeCast S64x1 (multiReduction .maximumf [1] S64
        (mulf (matmul dot_S64x128_S1024x128_S64x1024_1_1_0_0_n_n none q k (constant S64x1024 .f32 0x00000000#32))
          (broadcast S64x1024 (Scalar.ofBits (F := Ideal) .f32 0x3DB504F3#32)))
        0xFF800000#32 reduces_S64x1024_S64 (.inl rfl) rfl) shapeCasts_S64_S64x1) broadcasts_S64x1_S64x1024)) (ix2 r j) : EReal)
      = Ideal.exp ((∑ d : Fin 128, (q (ix2 r d) : EReal) * k (ix2 j d)) * scale
          - top fun j : Fin 1024 => (∑ d : Fin 128, (q (ix2 r d) : EReal) * k (ix2 j d)) * scale) := by
    intro j
    refine congrArg Ideal.exp (congrArg₂ (fun y z : EReal => y - z) (hs j) ?_)
    rw [spread_at, rowMax_at]
    exact congrArg top (funext hs)
  simp only [he]

/-! ## The chunk -/

/-- Column `128 h + d` of a device's 1024, -/
def lcol (h : Fin 8) (d : Fin 128) : Fin 1024 := ⟨128 * h.val + d.val, by omega⟩
/-- the row of the gathered keys that holds key `j` of row `r`'s class. -/
def krow (r : Fin 256) (j : Fin 1024) : Fin 4096 := ⟨1024 * (r.val / 64) + j.val, by omega⟩

/-- The context of row `r` at head `h` and coordinate `d`. -/
theorem ctxV_at (Q : FVec Ideal S256x1024 .f32) (K V : FVec Ideal S4096x1024 .f32) (r : Fin 256) (h : Fin 8) (d : Fin 128) :
    (ctxV (F := Ideal) Q K V (ix2 r (lcol h d)) : EReal)
      = att (fun j : Fin 1024 => (∑ d : Fin 128, (Q (ix2 r (lcol h d)) : EReal) * K (ix2 (krow r j) (lcol h d))) * scale)
          (fun j => V (ix2 (krow r j) (lcol h d))) := by
  have hp : partOf (ix2 r (lcol h d)) = 8 * (r.val / 64) + h.val := by
    show 8 * (r.val / 64) + (128 * h.val + d.val) / 128 = _
    omega
  have hi : inPart (ix2 r (lcol h d)) = ix2 ⟨r.val % 64, Nat.mod_lt _ (by decide)⟩ d := by
    funext a; apply Fin.ext
    match a with
    | ⟨0, _⟩ => rfl
    | ⟨1, _⟩ => show (128 * h.val + d.val) % 128 = d.val; omega
  have hq : ∀ d : Fin 128, qPart (F := Ideal) Q (8 * (r.val / 64) + h.val) (ix2 ⟨r.val % 64, Nat.mod_lt _ (by decide)⟩ d)
      = Q (ix2 r (lcol h d)) := fun d => congrArg Q (by
    funext a; apply Fin.ext
    match a with
    | ⟨0, _⟩ => show 64 * ((8 * (r.val / 64) + h.val) / 8 % 4) + 1 * (r.val % 64) = r.val; omega
    | ⟨1, _⟩ => show 128 * ((8 * (r.val / 64) + h.val) % 8) + 1 * d.val = 128 * h.val + d.val; omega)
  have hk : ∀ (K : FVec Ideal S4096x1024 .f32) (j : Fin 1024) (d : Fin 128),
      kpPart (F := Ideal) K (8 * (r.val / 64) + h.val) (ix2 j d) = K (ix2 (krow r j) (lcol h d)) := fun K j d => congrArg K (by
    funext a; apply Fin.ext
    match a with
    | ⟨0, _⟩ => show 1024 * ((8 * (r.val / 64) + h.val) / 8 % 4) + 1 * j.val = 1024 * (r.val / 64) + j.val; omega
    | ⟨1, _⟩ => show 128 * ((8 * (r.val / 64) + h.val) % 8) + 1 * d.val = 128 * h.val + d.val; omega)
  unfold ctxV headV
  rw [hp, hi, pay5_at]
  simp only [hq, hk]

theorem lcol_bijective : Function.Bijective fun p : Fin 8 × Fin 128 => lcol p.1 p.2 := by
  constructor
  · rintro ⟨h, d⟩ ⟨h', d'⟩ hh
    have := congrArg Fin.val hh
    change 128 * h.val + d.val = 128 * h'.val + d'.val at this
    exact Prod.ext (Fin.ext (by show h.val = h'.val; omega)) (Fin.ext (by show d.val = d'.val; omega))
  · intro e
    exact ⟨(⟨e.val / 128, by omega⟩, ⟨e.val % 128, by omega⟩), Fin.ext (by show 128 * (e.val / 128) + e.val % 128 = e.val; omega)⟩

/-- An element of the chunk's partial product. -/
theorem attV_at (X : FVec Ideal S256x1024 .f32) (WQ WO : FVec Ideal S1024x1024 .f32) (K V : FVec Ideal S4096x1024 .f32)
    (r : Fin 256) (n : Fin 1024) :
    (attV (F := Ideal) X WQ WO K V (ix2 r n) : EReal)
      = ∑ h : Fin 8, ∑ d : Fin 128,
          att (fun j : Fin 1024 => (∑ d : Fin 128, (∑ t : Fin 1024, (X (ix2 r t) : EReal) * WQ (ix2 t (lcol h d)))
              * K (ix2 (krow r j) (lcol h d))) * scale)
            (fun j => V (ix2 (krow r j) (lcol h d))) * WO (ix2 (lcol h d) n) := by
  have hq : ∀ e : Fin 1024, (k0_pay2 (F := Ideal) X WQ (ix2 r e) : EReal)
      = ∑ t : Fin 1024, (X (ix2 r t) : EReal) * WQ (ix2 t e) := fun e => by
    unfold k0_pay2
    rw [shapeCast_self, shapeCast_self, rows_at]
  unfold attV k0_pay52
  rw [shapeCast_self, shapeCast_self, rows_at, ← Function.Bijective.sum_comp lcol_bijective, Fintype.sum_prod_type]
  refine Finset.sum_congr rfl fun h _ => Finset.sum_congr rfl fun d _ => ?_
  show (ctxV (F := Ideal) _ K V (ix2 r (lcol h d)) : EReal) * _ = _
  rw [ctxV_at]
  simp only [hq]

/-- The sum of two chunks. -/
theorem pay155_at (X Y : FVec Ideal S256x1024 .f32) (i : S256x1024.Idx) :
    (k0_pay155 (F := Ideal) X Y i : EReal) = (X i : EReal) + Y i := by
  unfold k0_pay155
  rw [shapeCast_self]
  rfl

/-- A device's rows, without their unit axis. -/
theorem pay1_at (X : FVec Ideal S1x256x1024 .f32) (r : Fin 256) (t : Fin 1024) :
    k0_pay1 (F := Ideal) X (ix2 r t) = X (ix3 0 r t) := by
  unfold k0_pay1
  rw [shapeCast_self]
  exact shapeCast_1ab_ab_apply _ _ r t

end Cert.KernelIdeal.Att
-- ==== Proof.Value.Words.lean ====
/-
# The words of the mask

The reference marks a pair of positions by the blocks of sixty-four they lie in: block numbers are quotients
rounded down, and classes of blocks are remainders by four with the sign of the divisor. On the words of numbers
below 4096 these are the quotient and the remainder of the numbers.
-/
module

public import Idealize.ShloMosaic.Lib.Routing.Words
public import Idealize.ShloMosaic.Lib.ValueIdxCore

@[expose] public section

namespace Cert.Attention

open Idealize.ShloMosaic

/-- The sign of a word. -/
def sgn (a : BitVec 32) : BitVec 32 := if a = 0 then 0 else if a.msb then -1 else 1

/-- The quotient rounded down, as the host computes it from the quotient rounded toward zero. -/
def floorDiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- The remainder with the divisor's sign, as the host computes it from the one with the dividend's. -/
def signedMod (a b : BitVec 32) : BitVec 32 :=
  Scalar.select (IntOp.andi (IntOp.cmpi .ne (IntOp.cmpi .slt (IntOp.remsi .host a b) 0#32) (IntOp.cmpi .slt b 0#32))
      (IntOp.cmpi .ne (IntOp.remsi .host a b) 0#32))
    (IntOp.addi (IntOp.remsi .host a b) b) (IntOp.remsi .host a b)

/-- A positive word below 2³¹ has sign one. -/
theorem sgn_pos {n : Nat} (h0 : 0 < n) (hn : n < 4096) : sgn (BitVec.ofNat 32 n) = 1 := by
  have h1 : ¬ BitVec.ofNat 32 n = 0 := by
    intro h
    have := congrArg BitVec.toNat h
    rw [BitVec.toNat_ofNat, Nat.mod_eq_of_lt (by omega)] at this
    change n = 0 at this
    omega
  have h2 : (BitVec.ofNat 32 n).msb = false := by
    rw [BitVec.msb_eq_decide, BitVec.toNat_ofNat, Nat.mod_eq_of_lt (by omega)]
    exact decide_eq_false (by omega)
  rw [sgn, if_neg h1, h2]; rfl

/-- The block a position lies in. -/
theorem floorDiv_word {n : Nat} (hn : n < 4096) : floorDiv (BitVec.ofNat 32 n) 64#32 = BitVec.ofNat 32 (n / 64) := by
  have hd : IntOp.divsi .host (BitVec.ofNat 32 n) 64#32 = BitVec.ofNat 32 (n / 64) :=
    Routing.divsi_word .host (b := 64) (by omega) (by omega) (by omega)
  have hr : IntOp.remsi .host (BitVec.ofNat 32 n) 64#32 = BitVec.ofNat 32 (n % 64) :=
    Routing.remsi_word .host (b := 64) (by omega) (by omega) (by omega)
  rw [floorDiv, hd, hr]
  rcases Nat.eq_zero_or_pos n with rfl | h0
  · decide
  · rw [sgn_pos h0 hn]
    have : IntOp.cmpi .ne (1 : BitVec 32) (sgn 64#32) = 0#1 := by decide
    rw [this]
    have h : ∀ b : BitVec 1, IntOp.andi 0#1 b = 0#1 := by decide
    rw [h]; rfl

/-- The class of a block. -/
theorem signedMod_word {k : Nat} (hk : k < 4096) : signedMod (BitVec.ofNat 32 k) 4#32 = BitVec.ofNat 32 (k % 4) := by
  have hr : IntOp.remsi .host (BitVec.ofNat 32 k) 4#32 = BitVec.ofNat 32 (k % 4) :=
    Routing.remsi_word .host (b := 4) (by omega) (by omega) (by omega)
  rw [signedMod, hr]
  have h4 : k % 4 = 0 ∨ k % 4 = 1 ∨ k % 4 = 2 ∨ k % 4 = 3 := by omega
  rcases h4 with h | h | h | h <;> rw [h] <;> decide

/-- Equality of small words is equality of the numbers. -/
theorem eq_word {a b : Nat} (ha : a < 4096) (hb : b < 4096) :
    IntOp.cmpi .eq (BitVec.ofNat 32 a) (BitVec.ofNat 32 b) = if a = b then 1#1 else 0#1 := by
  by_cases h : a = b
  · subst h; rw [if_pos rfl]; simp [IntOp.cmpi]
  · rw [if_neg h]
    have hne : ¬ BitVec.ofNat 32 a = BitVec.ofNat 32 b := by
      intro e
      have := congrArg BitVec.toNat e
      rw [BitVec.toNat_ofNat, BitVec.toNat_ofNat, Nat.mod_eq_of_lt (by omega), Nat.mod_eq_of_lt (by omega)] at this
      exact h this
    simp only [IntOp.cmpi, beq_eq_false_iff_ne.2 hne]; rfl

/-- The mask's word at a query and a key: one where their blocks are the same or of the same class. -/
def maskWord (i j : Nat) : BitVec 1 :=
  IntOp.ori
    (IntOp.cmpi .eq (floorDiv (BitVec.ofNat 32 i) 64#32) (floorDiv (BitVec.ofNat 32 j) 64#32))
    (IntOp.cmpi .eq (signedMod (floorDiv (BitVec.ofNat 32 j) 64#32) 4#32) (signedMod (floorDiv (BitVec.ofNat 32 i) 64#32) 4#32))

/-- It is one exactly where the classes agree. -/
theorem maskWord_eq {i j : Nat} (hi : i < 4096) (hj : j < 4096) :
    maskWord i j = if j / 64 % 4 = i / 64 % 4 then 1#1 else 0#1 := by
  rw [maskWord, floorDiv_word hi, floorDiv_word hj, signedMod_word (by omega), signedMod_word (by omega),
    eq_word (by omega) (by omega), eq_word (by omega) (by omega)]
  by_cases h : i / 64 = j / 64
  · rw [if_pos h, if_pos (by rw [h])]; decide
  · rw [if_neg h]
    by_cases h' : j / 64 % 4 = i / 64 % 4
    · rw [if_pos h']; decide
    · rw [if_neg h']; decide

end Cert.Attention
-- ==== Proof.Value.Reference.lean ====
/-
# The reference in stages

The value the reference returns, opened into the stages its program names: the mask, the scores, the softmax
weights, the context, and the projection out.
-/
module

public import proofs.«01_k».proof.Proof.Gen.ReferenceIdeal.Run
public import proofs.«01_k».proof.Proof.Value.Words
public import proofs.«01_k».proof.Proof.Value.Softmax
public import Idealize.ShloMosaic.Lib.ValueIdx
public import Idealize.ShloMosaic.Lib.ValueLayout
public import Idealize.ShloMosaic.Lib.IdealHost

@[expose] public section

set_option maxRecDepth 100000

noncomputable section

namespace Cert.ReferenceIdeal.Att

open Cert.ReferenceIdeal Cert.ReferenceIdeal.Gen Idealize.ShloMosaic Idealize.ShloMosaic.TcCoe Idealize.SL.Sem
open Idealize.ShloMosaic.ValueIdx Cert.Attention
open scoped BigOperators

/-! ## The mask -/

/-- The number of positions in a block, as the program carries it. -/
def blockLen : IVec S_ 32 := id (constantI S_ 32 64#32)
/-- The number of classes, after the test that it is not zero. -/
def classes : IVec S_ 32 :=
  select (cmpi .eq (id (constantI S_ 32 4#32)) (constantI S_ 32 0#32)) (constantI S_ 32 1#32) (id (constantI S_ 32 4#32))

/-- The block number of each position, along one axis. -/
def blockOf (T : Shape) (a : Fin T.rank) (h : S_.BroadcastsInDim T ![]) : IVec T 32 :=
  select
    (andi (cmpi .ne (signi (iotaInDim T 32 a)) (broadcastInDim T ![] h (signi blockLen)))
      (cmpi .ne (Host.remsi (iotaInDim T 32 a) (broadcastInDim T ![] h blockLen))
        (broadcastInDim T ![] h (constantI S_ 32 0#32))))
    (subi (Host.divsi (iotaInDim T 32 a) (broadcastInDim T ![] h blockLen)) (broadcastInDim T ![] h (constantI S_ 32 1#32)))
    (Host.divsi (iotaInDim T 32 a) (broadcastInDim T ![] h blockLen))

/-- The class of each block number. -/
def classOf (T : Shape) (h : S_.BroadcastsInDim T ![]) (Z : IVec T 32) : IVec T 32 :=
  select
    (andi (cmpi .ne (cmpi .slt (Host.remsi Z (broadcastInDim T ![] h classes)) (broadcastInDim T ![] h (constantI S_ 32 0#32)))
        (broadcastInDim T ![] h (cmpi .slt classes (constantI S_ 32 0#32))))
      (cmpi .ne (Host.remsi Z (broadcastInDim T ![] h classes)) (broadcastInDim T ![] h (constantI S_ 32 0#32))))
    (addi (Host.remsi Z (broadcastInDim T ![] h classes)) (broadcastInDim T ![] h classes))
    (Host.remsi Z (broadcastInDim T ![] h classes))

/-- The queries' block numbers as a column, -/
def qBlocks : IVec S1024x1 32 := broadcastInDim S1024x1 ![0] bcast_S1024_S1024x1_0 (blockOf S1024 0 bcast_S_S1024)
/-- the keys' as a row, -/
def kBlocks : IVec S1x4096 32 := broadcastInDim S1x4096 ![1] bcast_S4096_S1x4096_1 (blockOf S4096 0 bcast_S_S4096)

/-- and the mask: the same block, or blocks of the same class. -/
def mask : IVec S1024x4096 1 :=
  ori
    (cmpi .eq (broadcastInDim S1024x4096 ![0, 1] bcast_S1024x1_S1024x4096_0_1 qBlocks)
      (broadcastInDim S1024x4096 ![0, 1] bcast_S1x4096_S1024x4096_0_1 kBlocks))
    (cmpi .eq (broadcastInDim S1024x4096 ![0, 1] bcast_S1x4096_S1024x4096_0_1 (classOf S1x4096 bcast_S_S1x4096 kBlocks))
      (broadcastInDim S1024x4096 ![0, 1] bcast_S1024x1_S1024x4096_0_1 (classOf S1024x1 bcast_S_S1024x1 qBlocks)))

/-- Whether a query attends to any key. -/
def keep : IVec S1x1x1024x1 1 :=
  broadcastInDim S1x1x1024x1 ![2] bcast_S1024_S1x1x1024x1_2
    (Host.reduce IntOp.ori mask (constantI S_ 1 0#1) reducesTo_S1024x4096_S1024_d1 h_S_)

/-! ## The stages over the floats -/

section Floats
variable {F : FTy → Type} [FloatOps F]

/-- The queries of every head. -/
def heads (x : FVec F S1x1024x1024 .f32) (wq : FVec F S1024x4096 .f32) : FVec F S1x1024x32x128 .f32 :=
  shapeCast S1x1024x32x128
    (Host.dotGeneral dot_S1x1024x1024_S1024x4096_S1x1024x4096_2_0_01_1_n_n none x wq) shapeCasts_S1x1024x4096_S1x1024x32x128

/-- The scaled scores. -/
def scores (q : FVec F S1x1024x32x128 .f32) (k : FVec F S1x4096x32x128 .f32) : FVec F S1x32x1024x4096 .f32 :=
  mulf (Host.dotGeneral dot_S1x1024x32x128_S1x4096x32x128_S1x32x1024x4096_3_3_1_1_02_02 none q k)
    (broadcastInDim S1x32x1024x4096 ![] bcast_S_S1x32x1024x4096 (constant S_ .f32 0x3DB504F3#32))

/-- The scores with -∞ where the mask is not one. -/
def masked (s : FVec F S1x32x1024x4096 .f32) : FVec F S1x32x1024x4096 .f32 :=
  select
    (broadcastInDim S1x32x1024x4096 ![0, 1, 2, 3] bcast_S1x1x1024x4096_S1x32x1024x4096_0_1_2_3
      (broadcastInDim S1x1x1024x4096 ![2, 3] bcast_S1024x4096_S1x1x1024x4096_2_3 mask))
    s (broadcastInDim S1x32x1024x4096 ![] bcast_S_S1x32x1024x4096 (id (constant S_ .f32 0xFF800000#32)))

/-- The exponentials below the row's greatest score. -/
def expBelow (s : FVec F S1x32x1024x4096 .f32) : FVec F S1x32x1024x4096 .f32 :=
  Host.exp (subf s
    (broadcastInDim S1x32x1024x4096 ![0, 1, 2, 3] bcast_S1x32x1024x1_S1x32x1024x4096_0_1_2_3
      (broadcastInDim S1x32x1024x1 ![0, 1, 2] bcast_S1x32x1024_S1x32x1024x1_0_1_2
        (Host.reduce FloatOps.maximumf s (constant S_ .f32 0xFF800000#32) reducesTo_S1x32x1024x4096_S1x32x1024_d3 h_S_))))

/-- The weights. -/
def weights (e : FVec F S1x32x1024x4096 .f32) : FVec F S1x32x1024x4096 .f32 :=
  select
    (broadcastInDim S1x32x1024x4096 ![0, 1, 2, 3] bcast_S1x1x1024x1_S1x32x1024x4096_0_1_2_3 keep)
    (Host.divf e
      (broadcastInDim S1x32x1024x4096 ![0, 1, 2, 3] bcast_S1x32x1024x1_S1x32x1024x4096_0_1_2_3
        (select (broadcastInDim S1x32x1024x1 ![0, 1, 2, 3] bcast_S1x1x1024x1_S1x32x1024x1_0_1_2_3 keep)
          (broadcastInDim S1x32x1024x1 ![0, 1, 2] bcast_S1x32x1024_S1x32x1024x1_0_1_2
            (Host.reduceAdd e (constant S_ .f32 0x00000000#32) reducesTo_S1x32x1024x4096_S1x32x1024_d3 h_S_))
          (broadcastInDim S1x32x1024x1 ![] bcast_S_S1x32x1024x1 (id (constant S_ .f32 0x3F800000#32))))))
    (broadcastInDim S1x32x1024x4096 ![] bcast_S_S1x32x1024x4096 (id (constant S_ .f32 0x00000000#32)))

/-- The context of every head, laid out by position and column. -/
def context (v : FVec F S1x4096x32x128 .f32) (w : FVec F S1x32x1024x4096 .f32) : FVec F S1x1024x4096 .f32 :=
  shapeCast S1x1024x4096
    (transpose S1x1024x32x128 [0, 3, 1, 2]
      (Host.dotGeneral dot_S1x4096x32x128_S1x32x1024x4096_S1x32x128x1024_1_3_3_2_02_01 none v w)
      transposes_S1x32x128x1024_S1x1024x32x128_0_3_1_2)
    shapeCasts_S1x1024x32x128_S1x1024x4096

/-- The projection out. -/
def project (y : FVec F S1x1024x4096 .f32) (wo : FVec F S4096x1024 .f32) : FVec F S1024x1024 .f32 :=
  shapeCast S1024x1024
    (Host.dotGeneral dot_S1x1024x4096_S4096x1024_S1x1024x1024_2_0_01_1_n_n none y wo) shapeCasts_S1x1024x1024_S1024x1024

/-- The reference's value at its five arguments. -/
def whole (x : FVec F S1x1024x1024 .f32) (wq : FVec F S1024x4096 .f32) (k v : FVec F S1x4096x32x128 .f32)
    (wo : FVec F S4096x1024 .f32) : FVec F S1024x1024 .f32 :=
  project (context v (weights (expBelow (masked (scores (heads x wq) k))))) wo

/-- It is the term the program's run ends at. -/
theorem whole_eq (m : (ℓ : Loc nD τ sig) → Buf (Elt F) ℓ) (c : Dev nD) :
    Cert.ReferenceIdeal.Value.res_main_v40 m c
      = whole (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := rfl

end Floats

end Cert.ReferenceIdeal.Att
-- ==== Proof.Value.ReferenceAt.lean ====
/-
# The reference read at an index

Each stage of the reference at its coordinates, and together: an element of the result is a sum over the columns of
the context, each an average over the 4096 keys by a softmax whose scores are -∞ outside the query's class.
-/
module

public import proofs.«01_k».proof.Proof.Value.Reference
public import Idealize.ShloMosaic.Lib.KernelVsHost

@[expose] public section

set_option maxRecDepth 100000

noncomputable section

namespace Cert.ReferenceIdeal.Att

open Cert.ReferenceIdeal Cert.ReferenceIdeal.Gen Idealize.ShloMosaic Idealize.ShloMosaic.TcCoe
open Idealize.ShloMosaic.ValueIdx Cert.Attention
open scoped BigOperators

/-! ## The mask -/

/-- The block number of position `p`. -/
theorem blockOf_at {n : ℕ} (h : S_.BroadcastsInDim (⟨1, ![n]⟩ : Shape) ![]) (p : Fin n) :
    blockOf (⟨1, ![n]⟩ : Shape) 0 h (ix1 p) = floorDiv (BitVec.ofNat 32 p.val) 64#32 := rfl

/-- The class of a block number. -/
theorem classOf_at (T : Shape) (h : S_.BroadcastsInDim T ![]) (Z : IVec T 32) (j : T.Idx) :
    classOf T h Z j = signedMod (Z j) 4#32 := rfl

/-- The queries' block numbers, -/
theorem qBlocks_at (i : Fin 1024) (u : Fin 1) : qBlocks (ix2 i u) = floorDiv (BitVec.ofNat 32 i.val) 64#32 :=
  (broadcastInDim_apply _ _ _ (ix2 i u) (ix1 i) (fun a => match a with | ⟨0, _⟩ => rfl)).trans (blockOf_at _ i)
/-- the keys', -/
theorem kBlocks_at (u : Fin 1) (j : Fin 4096) : kBlocks (ix2 u j) = floorDiv (BitVec.ofNat 32 j.val) 64#32 :=
  (broadcastInDim_apply _ _ _ (ix2 u j) (ix1 j) (fun a => match a with | ⟨0, _⟩ => rfl)).trans (blockOf_at _ j)

/-- a column spread over the keys, -/
theorem overKeys {α : Type} (x : S1024x1.Idx → α) (i : Fin 1024) (j : Fin 4096) :
    broadcastInDim S1024x4096 ![0, 1] bcast_S1024x1_S1024x4096_0_1 x (ix2 i j) = x (ix2 i 0) :=
  broadcastInDim_apply _ _ _ (ix2 i j) (ix2 i 0) (fun a => match a with | ⟨0, _⟩ => rfl | ⟨1, _⟩ => rfl)
/-- a row spread over the queries, -/
theorem overQueries {α : Type} (x : S1x4096.Idx → α) (i : Fin 1024) (j : Fin 4096) :
    broadcastInDim S1024x4096 ![0, 1] bcast_S1x4096_S1024x4096_0_1 x (ix2 i j) = x (ix2 0 j) :=
  broadcastInDim_apply _ _ _ (ix2 i j) (ix2 0 j) (fun a => match a with | ⟨0, _⟩ => rfl | ⟨1, _⟩ => rfl)

/-- and the mask: one where the classes agree. -/
theorem mask_at (i : Fin 1024) (j : Fin 4096) :
    mask (ix2 i j) = if j.val / 64 % 4 = i.val / 64 % 4 then 1#1 else 0#1 := by
  rw [← maskWord_eq (i := i.val) (j := j.val) (by omega) (by omega)]
  show IntOp.ori (IntOp.cmpi .eq _ _) (IntOp.cmpi .eq _ _) = _
  rw [overKeys, overQueries, overQueries, overKeys, classOf_at, classOf_at, qBlocks_at, kBlocks_at]
  rfl

/-- A disjunction of bits, one of which is one. -/
theorem fold_ori {n : ℕ} (f : Fin n → BitVec 1) (b : BitVec 1) (k : Fin n) (hk : f k = 1#1) :
    (Finset.univ : Finset (Fin n)).fold IntOp.ori b f = 1#1 := by
  classical
  rw [← Finset.insert_erase (Finset.mem_univ k), Finset.fold_insert (Finset.notMem_erase k _), hk]
  have h : ∀ x : BitVec 1, IntOp.ori 1#1 x = 1#1 := by decide
  exact h _

/-- A query's own position is a key of its class, so each query attends to some key. -/
theorem keep_at (u v : Fin 1) (i : Fin 1024) (w : Fin 1) : keep (ix4 u v i w) = 1#1 := by
  refine (broadcastInDim_apply _ _ _ (ix4 u v i w) (ix1 i) (fun a => match a with | ⟨0, _⟩ => rfl)).trans ?_
  have hr : S1024x4096.Reduces [1] S1024 := by decide
  rw [Host.reduce_eq_fold_single IntOp.ori mask _ reducesTo_S1024x4096_S1024_d1 hr h_S_]
  have hl : ∀ k : Fin 4096, hr.lift (ix1 i) k = ix2 i k := fun k => funext fun a =>
    match a with | ⟨0, _⟩ => rfl | ⟨1, _⟩ => rfl
  refine fold_ori _ _ (⟨i.val, by omega⟩ : Fin 4096) ?_
  show mask (hr.lift (ix1 i) _) = _
  rw [hl, mask_at, if_pos rfl]

/-! ## Spreading over the axes -/

/-- The same mask for every head, -/
theorem overHeads {α : Type} (x : S1024x4096.Idx → α) (h : Fin 32) (i : Fin 1024) (j : Fin 4096) :
    broadcastInDim S1x32x1024x4096 ![0, 1, 2, 3] bcast_S1x1x1024x4096_S1x32x1024x4096_0_1_2_3
      (broadcastInDim S1x1x1024x4096 ![2, 3] bcast_S1024x4096_S1x1x1024x4096_2_3 x) (ix4 0 h i j) = x (ix2 i j) :=
  (broadcastInDim_apply _ _ _ (ix4 0 h i j) (ix4 0 0 i j)
      (fun a => match a with | ⟨0, _⟩ => rfl | ⟨1, _⟩ => rfl | ⟨2, _⟩ => rfl | ⟨3, _⟩ => rfl)).trans
    (broadcastInDim_apply _ _ _ (ix4 0 0 i j) (ix2 i j) (fun a => match a with | ⟨0, _⟩ => rfl | ⟨1, _⟩ => rfl))

/-- a value of each row for every key of the row, -/
theorem alongRow {α : Type} (x : S1x32x1024x1.Idx → α) (h : Fin 32) (i : Fin 1024) (j : Fin 4096) :
    broadcastInDim S1x32x1024x4096 ![0, 1, 2, 3] bcast_S1x32x1024x1_S1x32x1024x4096_0_1_2_3 x (ix4 0 h i j)
      = x (ix4 0 h i 0) :=
  broadcastInDim_apply _ _ _ (ix4 0 h i j) (ix4 0 h i 0)
    (fun a => match a with | ⟨0, _⟩ => rfl | ⟨1, _⟩ => rfl | ⟨2, _⟩ => rfl | ⟨3, _⟩ => rfl)

/-- with the unit axis put back, -/
theorem rowUnit {α : Type} (x : S1x32x1024.Idx → α) (h : Fin 32) (i : Fin 1024) :
    broadcastInDim S1x32x1024x1 ![0, 1, 2] bcast_S1x32x1024_S1x32x1024x1_0_1_2 x (ix4 0 h i 0) = x (ix3 0 h i) :=
  broadcastInDim_apply _ _ _ (ix4 0 h i 0) (ix3 0 h i)
    (fun a => match a with | ⟨0, _⟩ => rfl | ⟨1, _⟩ => rfl | ⟨2, _⟩ => rfl)

/-- the test of each query for every head and key, -/
theorem keepAll (h : Fin 32) (i : Fin 1024) (j : Fin 4096) :
    broadcastInDim S1x32x1024x4096 ![0, 1, 2, 3] bcast_S1x1x1024x1_S1x32x1024x4096_0_1_2_3 keep (ix4 0 h i j) = 1#1 :=
  (broadcastInDim_apply _ _ _ (ix4 0 h i j) (ix4 0 0 i 0)
    (fun a => match a with | ⟨0, _⟩ => rfl | ⟨1, _⟩ => rfl | ⟨2, _⟩ => rfl | ⟨3, _⟩ => rfl)).trans (keep_at 0 0 i 0)
/-- and for every head. -/
theorem keepRow (h : Fin 32) (i : Fin 1024) :
    broadcastInDim S1x32x1024x1 ![0, 1, 2, 3] bcast_S1x1x1024x1_S1x32x1024x1_0_1_2_3 keep (ix4 0 h i 0) = 1#1 :=
  (broadcastInDim_apply _ _ _ (ix4 0 h i 0) (ix4 0 0 i 0)
    (fun a => match a with | ⟨0, _⟩ => rfl | ⟨1, _⟩ => rfl | ⟨2, _⟩ => rfl | ⟨3, _⟩ => rfl)).trans (keep_at 0 0 i 0)

/-! ## The float stages -/

/-- Column `128 h + d` of 4096. -/
def col (h : Fin 32) (d : Fin 128) : Fin 4096 := ⟨128 * h.val + d.val, by omega⟩

/-- The product of the arguments at row `i` and column `e`. -/
theorem qdot_at (x : FVec Ideal S1x1024x1024 .f32) (wq : FVec Ideal S1024x4096 .f32) (i : Fin 1024) (e : Fin 4096) :
    (Host.dotGeneral dot_S1x1024x1024_S1024x4096_S1x1024x4096_2_0_01_1_n_n none x wq : FVec Ideal S1x1024x4096 .f32)
      (ix3 0 i e) = ∑ t : Fin 1024, x (ix3 0 i t) * wq (ix2 t e) := by
  let D := dot_S1x1024x1024_S1024x4096_S1x1024x4096_2_0_01_1_n_n
  have hr : D.contr.rank = 1 := rfl
  have hs : D.contr.size ⟨0, by omega⟩ = 1024 := rfl
  refine (Ideal.dotGeneral_apply D none _ x wq (ix3 0 i e)).trans ?_
  rw [← Equiv.sum_comp (contrEquiv1 D 1024 hr hs).symm]
  refine Finset.sum_congr rfl fun t _ => ?_
  have hk := contrEquiv1_symm_val D 1024 hr hs t
  have el : D.lhsIdx (ix3 0 i e) ((contrEquiv1 D 1024 hr hs).symm t) = ix3 0 i t := by
    funext a; apply Fin.ext
    match a with
    | ⟨0, _⟩ => rfl
    | ⟨1, _⟩ => rfl
    | ⟨2, _⟩ => exact hk
  have er : D.rhsIdx (ix3 0 i e) ((contrEquiv1 D 1024 hr hs).symm t) = ix2 t e := by
    funext a; apply Fin.ext
    match a with
    | ⟨0, _⟩ => exact hk
    | ⟨1, _⟩ => rfl
  rw [el, er]

/-- The queries of head `h`. -/
theorem heads_at (x : FVec Ideal S1x1024x1024 .f32) (wq : FVec Ideal S1024x4096 .f32) (i : Fin 1024) (h : Fin 32)
    (d : Fin 128) : heads x wq (ix4 0 i h d) = ∑ t : Fin 1024, x (ix3 0 i t) * wq (ix2 t (col h d)) := by
  refine Eq.trans ?_ (qdot_at x wq i (col h d))
  refine shapeCast_apply _ _ (ix4 0 i h d) (ix3 0 i (col h d)) ?_
  rw [Shape.rowMajor_val_three, Shape.rowMajor_val_four]
  show (0 * 1024 + i.val) * 4096 + (128 * h.val + d.val) = ((0 * 1024 + i.val) * 32 + h.val) * 128 + d.val
  omega

/-- The constant the scores are scaled by. -/
def scale : EReal := FloatOps.ofBits (F := Ideal) .f32 0x3DB504F3#32

/-- The scores of head `h`. -/
theorem scores_at (q : FVec Ideal S1x1024x32x128 .f32) (k : FVec Ideal S1x4096x32x128 .f32) (h : Fin 32) (i : Fin 1024)
    (j : Fin 4096) :
    scores q k (ix4 0 h i j) = (∑ d : Fin 128, (q (ix4 0 i h d) : EReal) * k (ix4 0 j h d)) * scale := by
  let D := dot_S1x1024x32x128_S1x4096x32x128_S1x32x1024x4096_3_3_1_1_02_02
  have hr : D.contr.rank = 1 := rfl
  have hs : D.contr.size ⟨0, by omega⟩ = 128 := rfl
  refine congrArg (· * scale) ((Ideal.dotGeneral_apply D none _ q k (ix4 0 h i j)).trans ?_)
  rw [← Equiv.sum_comp (contrEquiv1 D 128 hr hs).symm]
  refine Finset.sum_congr rfl fun t _ => ?_
  have hk := contrEquiv1_symm_val D 128 hr hs t
  have el : D.lhsIdx (ix4 0 h i j) ((contrEquiv1 D 128 hr hs).symm t) = ix4 0 i h t := by
    funext a; apply Fin.ext
    match a with
    | ⟨0, _⟩ => rfl
    | ⟨1, _⟩ => rfl
    | ⟨2, _⟩ => rfl
    | ⟨3, _⟩ => exact hk
  have er : D.rhsIdx (ix4 0 h i j) ((contrEquiv1 D 128 hr hs).symm t) = ix4 0 j h t := by
    funext a; apply Fin.ext
    match a with
    | ⟨0, _⟩ => rfl
    | ⟨1, _⟩ => rfl
    | ⟨2, _⟩ => rfl
    | ⟨3, _⟩ => exact hk
  rw [el, er]

/-- The bits of -∞. -/
theorem ofBits_bot : (FloatOps.ofBits (F := Ideal) .f32 0xFF800000#32 : EReal) = ⊥ := by
  show Ideal.ofBits .f32 0xFF800000#32 = ⊥
  simp [Ideal.ofBits, Ideal.ieee]

/-- The masked scores. -/
theorem masked_at (s : FVec Ideal S1x32x1024x4096 .f32) (h : Fin 32) (i : Fin 1024) (j : Fin 4096) :
    (masked s (ix4 0 h i j) : EReal) = if j.val / 64 % 4 = i.val / 64 % 4 then s (ix4 0 h i j) else ⊥ := by
  refine (select_apply _ _ _ _).trans ?_
  rw [overHeads, mask_at]
  split
  · exact select_one _ _
  · exact (select_zero _ _).trans ofBits_bot

/-- A fold of the maximum from -∞ is the greatest. -/
theorem fold_max {n : ℕ} (f : Fin n → EReal) :
    (Finset.univ : Finset (Fin n)).fold max (⊥ : EReal) f = top f := rfl

/-- The greatest score of a row. -/
theorem rowMax_at (s : FVec Ideal S1x32x1024x4096 .f32) (h : Fin 32) (i : Fin 1024) :
    (Host.reduce (FloatOps.maximumf (F := Ideal) (φ := .f32)) s (constant (F := Ideal) S_ .f32 0xFF800000#32)
      reducesTo_S1x32x1024x4096_S1x32x1024_d3 h_S_ (ix3 0 h i) : EReal) = top fun j : Fin 4096 => s (ix4 0 h i j) := by
  have hr : S1x32x1024x4096.Reduces [3] S1x32x1024 := by decide
  rw [Host.reduce_eq_fold_single (FloatOps.maximumf (F := Ideal) (φ := .f32)) s _ reducesTo_S1x32x1024x4096_S1x32x1024_d3 hr h_S_]
  have hl : (s ∘ hr.lift (ix3 0 h i)) = fun j : Fin 4096 => s (ix4 0 h i j) := funext fun j => congrArg s (funext fun a =>
    match a with | ⟨0, _⟩ => rfl | ⟨1, _⟩ => rfl | ⟨2, _⟩ => rfl | ⟨3, _⟩ => rfl)
  refine Eq.trans ?_ (fold_max fun j : Fin 4096 => (s (ix4 0 h i j) : EReal))
  rw [← ofBits_bot]
  exact congrArg (fun f => Finset.fold max (Ideal.ofBits .f32 0xFF800000#32) f (Finset.univ : Finset (Fin 4096))) hl

/-- The exponentials. -/
theorem expBelow_at (s : FVec Ideal S1x32x1024x4096 .f32) (h : Fin 32) (i : Fin 1024) (j : Fin 4096) :
    (expBelow s (ix4 0 h i j) : EReal)
      = Ideal.exp ((s (ix4 0 h i j) : EReal) - top fun j : Fin 4096 => s (ix4 0 h i j)) := by
  refine congrArg (fun y : EReal => Ideal.exp ((s (ix4 0 h i j) : EReal) - y)) ?_
  exact (alongRow _ h i j).trans ((rowUnit _ h i).trans (rowMax_at s h i))

/-- The sum of a row. -/
theorem rowSum_at (e : FVec Ideal S1x32x1024x4096 .f32) (h : Fin 32) (i : Fin 1024) :
    (Host.reduceAdd e (constant S_ .f32 0x00000000#32) reducesTo_S1x32x1024x4096_S1x32x1024_d3 h_S_ (ix3 0 h i) : EReal)
      = ∑ j : Fin 4096, (e (ix4 0 h i j) : EReal) := by
  have hr : S1x32x1024x4096.Reduces [3] S1x32x1024 := by decide
  rw [hostReduceAdd_apply, Ideal.hostReduceAdd_single reducesTo_S1x32x1024x4096_S1x32x1024_d3 hr]
  have hz : (constant (F := Ideal) S_ .f32 0x00000000#32 (Shape.Idx.first h_S_) : EReal) = 0 := Ideal.ofBits_zero_f32
  rw [hz, zero_add]
  exact Finset.sum_congr rfl fun j _ => congrArg e (funext fun a =>
    match a with | ⟨0, _⟩ => rfl | ⟨1, _⟩ => rfl | ⟨2, _⟩ => rfl | ⟨3, _⟩ => rfl)

/-- The weights. -/
theorem weights_at (e : FVec Ideal S1x32x1024x4096 .f32) (h : Fin 32) (i : Fin 1024) (j : Fin 4096) :
    (weights e (ix4 0 h i j) : EReal)
      = Ideal.div (e (ix4 0 h i j)) (∑ j : Fin 4096, (e (ix4 0 h i j) : EReal)) := by
  unfold weights
  rw [select_apply, keepAll, select_one, hostDivf_apply, alongRow, select_apply, keepRow, select_one, rowUnit, rowSum_at]

/-- The context of head `h`. -/
theorem context_at (v : FVec Ideal S1x4096x32x128 .f32) (w : FVec Ideal S1x32x1024x4096 .f32) (i : Fin 1024) (h : Fin 32)
    (d : Fin 128) :
    (context v w (ix3 0 i (col h d)) : EReal) = ∑ j : Fin 4096, (v (ix4 0 j h d) : EReal) * w (ix4 0 h i j) := by
  let D := dot_S1x4096x32x128_S1x32x1024x4096_S1x32x128x1024_1_3_3_2_02_01
  have hr : D.contr.rank = 1 := rfl
  have hs : D.contr.size ⟨0, by omega⟩ = 4096 := rfl
  refine (shapeCast_apply _ _ (ix3 0 i (col h d)) (ix4 0 i h d) ?_).trans ?_
  · rw [Shape.rowMajor_val_three, Shape.rowMajor_val_four]
    show ((0 * 1024 + i.val) * 32 + h.val) * 128 + d.val = (0 * 1024 + i.val) * 4096 + (128 * h.val + d.val)
    omega
  refine (transpose_apply _ _ _ (ix4 0 i h d) (ix4 0 h d i)
    (fun b => match b with | ⟨0, _⟩ => rfl | ⟨1, _⟩ => rfl | ⟨2, _⟩ => rfl | ⟨3, _⟩ => rfl)).trans ?_
  refine (Ideal.dotGeneral_apply D none _ v w (ix4 0 h d i)).trans ?_
  rw [← Equiv.sum_comp (contrEquiv1 D 4096 hr hs).symm]
  refine Finset.sum_congr rfl fun t _ => ?_
  have hk := contrEquiv1_symm_val D 4096 hr hs t
  have el : D.lhsIdx (ix4 0 h d i) ((contrEquiv1 D 4096 hr hs).symm t) = ix4 0 t h d := by
    funext a; apply Fin.ext
    match a with
    | ⟨0, _⟩ => rfl
    | ⟨1, _⟩ => exact hk
    | ⟨2, _⟩ => rfl
    | ⟨3, _⟩ => rfl
  have er : D.rhsIdx (ix4 0 h d i) ((contrEquiv1 D 4096 hr hs).symm t) = ix4 0 h i t := by
    funext a; apply Fin.ext
    match a with
    | ⟨0, _⟩ => rfl
    | ⟨1, _⟩ => rfl
    | ⟨2, _⟩ => rfl
    | ⟨3, _⟩ => exact hk
  rw [el, er]

/-- The projection out. -/
theorem project_at (y : FVec Ideal S1x1024x4096 .f32) (wo : FVec Ideal S4096x1024 .f32) (i n : Fin 1024) :
    (project y wo (ix2 i n) : EReal) = ∑ e : Fin 4096, (y (ix3 0 i e) : EReal) * wo (ix2 e n) := by
  let D := dot_S1x1024x4096_S4096x1024_S1x1024x1024_2_0_01_1_n_n
  have hr : D.contr.rank = 1 := rfl
  have hs : D.contr.size ⟨0, by omega⟩ = 4096 := rfl
  refine (shapeCast_1ab_ab_apply _ _ i n).trans ?_
  refine (Ideal.dotGeneral_apply D none _ y wo (ix3 0 i n)).trans ?_
  rw [← Equiv.sum_comp (contrEquiv1 D 4096 hr hs).symm]
  refine Finset.sum_congr rfl fun t _ => ?_
  have hk := contrEquiv1_symm_val D 4096 hr hs t
  have el : D.lhsIdx (ix3 0 i n) ((contrEquiv1 D 4096 hr hs).symm t) = ix3 0 i t := by
    funext a; apply Fin.ext
    match a with
    | ⟨0, _⟩ => rfl
    | ⟨1, _⟩ => rfl
    | ⟨2, _⟩ => exact hk
  have er : D.rhsIdx (ix3 0 i n) ((contrEquiv1 D 4096 hr hs).symm t) = ix2 t n := by
    funext a; apply Fin.ext
    match a with
    | ⟨0, _⟩ => exact hk
    | ⟨1, _⟩ => rfl
  rw [el, er]

/-! ## The result at an index -/

/-- The score of query `i` and key `j` in head `h`. -/
def score (x : FVec Ideal S1x1024x1024 .f32) (wq : FVec Ideal S1024x4096 .f32) (k : FVec Ideal S1x4096x32x128 .f32)
    (i : Fin 1024) (h : Fin 32) (j : Fin 4096) : EReal :=
  (∑ d : Fin 128, (∑ t : Fin 1024, (x (ix3 0 i t) : EReal) * wq (ix2 t (col h d))) * k (ix4 0 j h d)) * scale

/-- The score with -∞ outside the query's class. -/
def mscore (x : FVec Ideal S1x1024x1024 .f32) (wq : FVec Ideal S1024x4096 .f32) (k : FVec Ideal S1x4096x32x128 .f32)
    (i : Fin 1024) (h : Fin 32) (j : Fin 4096) : EReal :=
  if j.val / 64 % 4 = i.val / 64 % 4 then score x wq k i h j else ⊥

/-- The context at row `i`, head `h` and coordinate `d`: the average of the values by the masked scores. -/
theorem attention_at (x : FVec Ideal S1x1024x1024 .f32) (wq : FVec Ideal S1024x4096 .f32)
    (k v : FVec Ideal S1x4096x32x128 .f32) (i : Fin 1024) (h : Fin 32) (d : Fin 128) :
    (context v (weights (expBelow (masked (scores (heads x wq) k)))) (ix3 0 i (col h d)) : EReal)
      = att (mscore x wq k i h) (fun j => v (ix4 0 j h d)) := by
  have hs : ∀ j, (masked (scores (heads x wq) k) (ix4 0 h i j) : EReal) = mscore x wq k i h j := by
    intro j
    rw [masked_at, scores_at]
    unfold mscore score
    simp only [heads_at]
  rw [context_at]
  unfold att mass
  refine Finset.sum_congr rfl fun j _ => ?_
  rw [weights_at]
  simp only [expBelow_at, hs]

/-- An element of the result. -/
theorem whole_at (x : FVec Ideal S1x1024x1024 .f32) (wq : FVec Ideal S1024x4096 .f32)
    (k v : FVec Ideal S1x4096x32x128 .f32) (wo : FVec Ideal S4096x1024 .f32) (i n : Fin 1024) :
    (whole x wq k v wo (ix2 i n) : EReal)
      = ∑ h : Fin 32, ∑ d : Fin 128, att (mscore x wq k i h) (fun j => v (ix4 0 j h d)) * wo (ix2 (col h d) n) := by
  unfold whole
  rw [project_at]
  have e : Function.Bijective fun p : Fin 32 × Fin 128 => col p.1 p.2 := by
    constructor
    · rintro ⟨h, d⟩ ⟨h', d'⟩ hh
      have := congrArg Fin.val hh
      change 128 * h.val + d.val = 128 * h'.val + d'.val at this
      exact Prod.ext (Fin.ext (by show h.val = h'.val; omega)) (Fin.ext (by show d.val = d'.val; omega))
    · intro e
      exact ⟨(⟨e.val / 128, by omega⟩, ⟨e.val % 128, by omega⟩), Fin.ext (by show 128 * (e.val / 128) + e.val % 128 = e.val; omega)⟩
  rw [← Function.Bijective.sum_comp e, Fintype.sum_prod_type]
  refine Finset.sum_congr rfl fun h _ => Finset.sum_congr rfl fun d _ => ?_
  exact congrArg (· * (wo (ix2 (col h d) n) : EReal)) (attention_at x wq k v i h d)

end Cert.ReferenceIdeal.Att
-- ==== Proof.Value.Combine.lean ====
/-
# The kernel's sum is the reference's rows

The sum that reaches a device on the second ring is the sum over the four devices of their products for its chunk of
rows. Each device has the columns of eight heads, so together they have all 4096 columns; and the gathered keys of a
row's class are the keys the mask leaves.
-/
module

public import proofs.«01_k».proof.Proof.Value.KernelAt
public import proofs.«01_k».proof.Proof.Value.ReferenceAt
public import Idealize.ShloMosaic.Lib.Layout

@[expose] public section

set_option maxRecDepth 100000

noncomputable section

namespace Cert.Attention

open Idealize.ShloMosaic Idealize.ShloMosaic.TcCoe Idealize.SL.Sem
open Idealize.ShloMosaic.ValueIdx
open Cert.KernelIdeal (nD τ sig)
open Cert.KernelIdeal.Att (nxt opp prv Pp AV XV xstg wqstg wostg kvX packX lcol krow)
open Cert.ReferenceIdeal.Att (col score mscore whole)
open scoped BigOperators

/-! ## Places -/

/-- Row `r` of chunk `c`, -/
def grow (c : Dev nD) (r : Fin 256) : Fin 1024 := ⟨256 * c.val + r.val, by have h : c.val < 4 := c.isLt; omega⟩
/-- column `e` of device `c`, -/
def gcol (c : Dev nD) (e : Fin 1024) : Fin 4096 := ⟨1024 * c.val + e.val, by have h : c.val < 4 := c.isLt; omega⟩
/-- head `h` of device `c`, -/
def ghead (c : Dev nD) (h : Fin 8) : Fin 32 := ⟨8 * c.val + h.val, by have h : c.val < 4 := c.isLt; omega⟩
/-- and key `j` of row `r`'s class. -/
def key (r : Fin 256) (j : Fin 1024) : Fin 4096 := ⟨256 * (j.val / 64) + 64 * (r.val / 64) + j.val % 64, by omega⟩

/-- A head's columns on its device are its columns. -/
theorem gcol_lcol (c : Dev nD) (h : Fin 8) (d : Fin 128) : gcol c (lcol h d) = col (ghead c h) d :=
  Fin.ext (by show 1024 * c.val + (128 * h.val + d.val) = 128 * (8 * c.val + h.val) + d.val; omega)

theorem key_injective (r : Fin 256) : Function.Injective (key r) := by
  intro a b hab
  have := congrArg Fin.val hab
  change 256 * (a.val / 64) + 64 * (r.val / 64) + a.val % 64 = 256 * (b.val / 64) + 64 * (r.val / 64) + b.val % 64 at this
  exact Fin.ext (by omega)

/-- The keys of the class are those whose block is of the row's class. -/
theorem key_class (c : Dev nD) (r : Fin 256) (j : Fin 1024) : (key r j).val / 64 % 4 = (grow c r).val / 64 % 4 := by
  show (256 * (j.val / 64) + 64 * (r.val / 64) + j.val % 64) / 64 % 4 = (256 * c.val + r.val) / 64 % 4
  omega

theorem class_key (c : Dev nD) (r : Fin 256) (i : Fin 4096) (h : i.val / 64 % 4 = (grow c r).val / 64 % 4) : i ∈ Set.range (key r) := by
  change i.val / 64 % 4 = (256 * c.val + r.val) / 64 % 4 at h
  refine ⟨⟨64 * (i.val / 256) + i.val % 64, by omega⟩, Fin.ext ?_⟩
  show 256 * ((64 * (i.val / 256) + i.val % 64) / 64) + 64 * (r.val / 64) + (64 * (i.val / 256) + i.val % 64) % 64 = i.val
  omega

/-- Every head is a head of one device. -/
theorem ghead_bijective : Function.Bijective fun p : Dev nD × Fin 8 => ghead p.1 p.2 := by
  constructor
  · rintro ⟨c, h⟩ ⟨c', h'⟩ hh
    have := congrArg Fin.val hh
    change 8 * c.val + h.val = 8 * c'.val + h'.val at this
    exact Prod.ext (Fin.ext (by show c.val = c'.val; omega)) (Fin.ext (by show h.val = h'.val; omega))
  · intro e
    exact ⟨(⟨e.val / 8, by have := e.isLt; show e.val / 8 < 4; omega⟩, ⟨e.val % 8, by omega⟩),
      Fin.ext (by show 8 * (e.val / 8) + e.val % 8 = e.val; omega)⟩

/-! ## The ring's sum -/

/-- A device and the ones behind, across and ahead of it are all four. -/
theorem around (c : Dev nD) :
    (c = (0 : Fin 4) ∧ prv c = (3 : Fin 4) ∧ opp c = (2 : Fin 4) ∧ nxt c = (1 : Fin 4))
    ∨ (c = (1 : Fin 4) ∧ prv c = (0 : Fin 4) ∧ opp c = (3 : Fin 4) ∧ nxt c = (2 : Fin 4))
    ∨ (c = (2 : Fin 4) ∧ prv c = (1 : Fin 4) ∧ opp c = (0 : Fin 4) ∧ nxt c = (3 : Fin 4))
    ∨ (c = (3 : Fin 4) ∧ prv c = (2 : Fin 4) ∧ opp c = (1 : Fin 4) ∧ nxt c = (0 : Fin 4)) := by
  revert c; decide

/-- The four devices, in the order the second ring meets them. -/
theorem ring_sum (f : Dev nD → EReal) (c : Dev nD) :
    f c + (f (prv c) + (f (opp c) + f (nxt c))) = ∑ c' : Dev nD, f c' := by
  have hs : ∑ c' : Dev nD, f c' = f (0 : Fin 4) + f (1 : Fin 4) + f (2 : Fin 4) + f (3 : Fin 4) := Fin.sum_univ_four f
  rw [hs]
  obtain h | h | h | h := around c
  all_goals obtain ⟨h1, h2, h3, h4⟩ := h; rw [h2, h3, h4, h1]; ac_rfl

theorem places (c : Dev nD) : Cert.KernelIdeal.Att.sumChunk c 3 = c ∧ prv (prv c) = opp c ∧ prv (opp c) = nxt c
    ∧ Cert.KernelIdeal.Att.sumChunk (prv c) 2 = c ∧ Cert.KernelIdeal.Att.sumChunk (opp c) 1 = c
    ∧ Cert.KernelIdeal.Att.sumChunk (nxt c) 0 = c := by
  revert c; decide

variable (m : (ℓ : Loc nD τ sig) → Buf (Elt Ideal) ℓ)

/-- The last sum on the second ring is over the four devices. -/
theorem AV_at (c : Dev nD) (i : Cert.KernelIdeal.S256x1024.Idx) :
    (AV (F := Ideal) m 3 c i : EReal) = ∑ c' : Dev nD, (Pp (F := Ideal) m c' c i : EReal) := by
  obtain ⟨h1, h2, h3, h4, h5, h6⟩ := places c
  have e3 : AV (F := Ideal) m 3 c = Cert.KernelIdeal.Gen.k0_pay155 (Pp m c c) (AV m 2 (prv c)) := by
    show Cert.KernelIdeal.Gen.k0_pay155 (Pp m c (Cert.KernelIdeal.Att.sumChunk c 3)) _ = _
    rw [h1]
  have e2 : AV (F := Ideal) m 2 (prv c) = Cert.KernelIdeal.Gen.k0_pay155 (Pp m (prv c) c) (AV m 1 (opp c)) := by
    show Cert.KernelIdeal.Gen.k0_pay155 (Pp m (prv c) (Cert.KernelIdeal.Att.sumChunk (prv c) 2)) (AV m 1 (prv (prv c))) = _
    rw [h4, h2]
  have e1 : AV (F := Ideal) m 1 (opp c) = Cert.KernelIdeal.Gen.k0_pay155 (Pp m (opp c) c) (AV m 0 (nxt c)) := by
    show Cert.KernelIdeal.Gen.k0_pay155 (Pp m (opp c) (Cert.KernelIdeal.Att.sumChunk (opp c) 1)) (AV m 0 (prv (opp c))) = _
    rw [h5, h3]
  have e0 : AV (F := Ideal) m 0 (nxt c) = Pp m (nxt c) c := by
    show Pp m (nxt c) (Cert.KernelIdeal.Att.sumChunk (nxt c) 0) = _
    rw [h6]
  rw [e3, Cert.KernelIdeal.Att.pay155_at, e2, Cert.KernelIdeal.Att.pay155_at, e1, Cert.KernelIdeal.Att.pay155_at, e0]
  exact ring_sum (fun c' => (Pp (F := Ideal) m c' c i : EReal)) c

/-! ## One device's product -/

section Whole

variable (x : FVec Ideal Cert.ReferenceIdeal.S1x1024x1024 .f32) (wq : FVec Ideal Cert.ReferenceIdeal.S1024x4096 .f32)
  (k v : FVec Ideal Cert.ReferenceIdeal.S1x4096x32x128 .f32) (wo : FVec Ideal Cert.ReferenceIdeal.S4096x1024 .f32)

/-- What the devices hold of the whole arrays. -/
structure Holds : Prop where
  x : ∀ (c : Dev nD) (r : Fin 256) (t : Fin 1024), xstg m c (ix3 0 r t) = x (ix3 0 (grow c r) t)
  wq : ∀ (c : Dev nD) (t e : Fin 1024), wqstg m c (ix2 t e) = wq (ix2 t (gcol c e))
  k : ∀ (c : Dev nD) (j : Fin 4096) (h : Fin 32) (d : Fin 128), kvX m c false (ix2 j (col h d)) = k (ix4 0 j h d)
  v : ∀ (c : Dev nD) (j : Fin 4096) (h : Fin 32) (d : Fin 128), kvX m c true (ix2 j (col h d)) = v (ix4 0 j h d)
  wo : ∀ (c : Dev nD) (e n : Fin 1024), wostg m c (ix2 e n) = wo (ix2 (gcol c e) n)

/-- What makes the scores finite: the rows, the query weight and the keys are reals. -/
structure Reals : Prop where
  x : ∀ i t, ∃ r : ℝ, (x (ix3 0 i t) : EReal) = (r : EReal)
  wq : ∀ t e, ∃ r : ℝ, (wq (ix2 t e) : EReal) = (r : EReal)
  k : ∀ j h d, ∃ r : ℝ, (k (ix4 0 j h d) : EReal) = (r : EReal)

variable {x wq k v wo}

/-- The scale is a real, -/
theorem scale_real : ∃ r : ℝ, Cert.ReferenceIdeal.Att.scale = (r : EReal) := by
  show ∃ r : ℝ, Ideal.ofBits .f32 0x3DB504F3#32 = (r : EReal)
  simp only [Ideal.ofBits, Ideal.ieee]
  norm_num
  exact ⟨_, rfl⟩

/-- so the scores are. -/
theorem score_real (hr : Reals x wq k) (i : Fin 1024) (h : Fin 32) (j : Fin 4096) :
    ∃ r : ℝ, score x wq k i h j = (r : EReal) :=
  real_mul (real_sum _ _ fun d => real_mul (real_sum _ _ fun t => real_mul (hr.x i t) (hr.wq t _)) (hr.k j h d)) scale_real

/-- The gathered keys or values, read in a head's columns. -/
theorem packX_at (X : FVec Ideal Cert.KernelIdeal.S4096x4096 .f32) (c : Dev nD) (r : Fin 256) (j : Fin 1024) (h : Fin 8) (d : Fin 128) :
    packX (F := Ideal) X c (ix2 (krow r j) (lcol h d)) = X (ix2 (key r j) (col (ghead c h) d)) := by
  rw [← gcol_lcol]
  refine congrArg X (funext fun a => Fin.ext ?_)
  match a with
  | ⟨0, _⟩ =>
    show 256 * ((1024 * (r.val / 64) + j.val) % 1024 / 64) + 64 * ((1024 * (r.val / 64) + j.val) / 1024) + (1024 * (r.val / 64) + j.val) % 64
      = 256 * (j.val / 64) + 64 * (r.val / 64) + j.val % 64
    omega
  | ⟨1, _⟩ => rfl

/-- A device's product for chunk `c`: its heads' part of the reference's element. -/
theorem Pp_at (H : Holds m x wq k v wo) (hr : Reals x wq k) (c' c : Dev nD) (r : Fin 256) (n : Fin 1024) :
    (Pp (F := Ideal) m c' c (ix2 r n) : EReal)
      = ∑ h : Fin 8, ∑ d : Fin 128, att (mscore x wq k (grow c r) (ghead c' h)) (fun j => v (ix4 0 j (ghead c' h) d))
          * wo (ix2 (col (ghead c' h) d) n) := by
  unfold Pp
  rw [Cert.KernelIdeal.Att.attV_at]
  refine Finset.sum_congr rfl fun h _ => Finset.sum_congr rfl fun d _ => ?_
  rw [H.wo, gcol_lcol]
  refine congrArg (· * (wo (ix2 (col (ghead c' h) d) n) : EReal)) ?_
  rw [att_pick (key r) (key_injective r) (mscore x wq k (grow c r) (ghead c' h)) (fun j => v (ix4 0 j (ghead c' h) d))
    (fun i hi => if_neg fun hc => hi (class_key c r i hc))
    (fun j => by unfold mscore; rw [if_pos (key_class c r j)]; exact score_real hr _ _ _)]
  refine congrArg₂ att (funext fun j => ?_) (funext fun j => ?_)
  · unfold mscore
    rw [if_pos (key_class c r j)]
    unfold score
    refine congrArg (· * Cert.ReferenceIdeal.Att.scale) (Finset.sum_congr rfl fun d _ => ?_)
    rw [packX_at, H.k]
    refine congrArg (· * (k (ix4 0 (key r j) (ghead c' h) d) : EReal)) (Finset.sum_congr rfl fun t _ => ?_)
    unfold XV
    rw [Cert.KernelIdeal.Att.pay1_at, H.x, H.wq, gcol_lcol]
  · rw [packX_at, H.v]

/-- The last sum on the second ring is the chunk's rows of the reference's value. -/
theorem AV_eq (H : Holds m x wq k v wo) (hr : Reals x wq k) (c : Dev nD) (r : Fin 256) (n : Fin 1024) :
    (AV (F := Ideal) m 3 c (ix2 r n) : EReal) = whole x wq k v wo (ix2 (grow c r) n) := by
  rw [AV_at, Cert.ReferenceIdeal.Att.whole_at, ← Function.Bijective.sum_comp ghead_bijective, Fintype.sum_prod_type]
  exact Finset.sum_congr rfl fun c' _ => Pp_at m H hr c' c r n

end Whole

end Cert.Attention
-- ==== Proof.Value.Agree.lean ====
/-
# What the claim's hypotheses say

Each device has its block of the rows, of the query weight and of the output weight, and the whole keys and values; and
the precondition says that the rows, the query weight and the keys are finite.
-/
module

public import proofs.«01_k».proof.Defs
public import proofs.«01_k».proof.Proof.Value.Combine
public import Idealize.ShloMosaic.Lib.ReduceAll

@[expose] public section

set_option maxRecDepth 100000

noncomputable section

namespace Cert.Attention

open Idealize.ShloMosaic Idealize.ShloMosaic.TcCoe Idealize.SL.Sem
open Idealize.ShloMosaic.ValueIdx
open Cert.KernelIdeal (nD τ sig win0_0 win0_1 win0_2 win0_3)
open Cert.KernelIdeal.Att (xstg wqstg wostg kvX hbm2 hbmM)
open Cert.ReferenceIdeal.Att (col)

/-! ## The side conditions of the printed precondition -/

theorem preKernel : Cert.Pre_finite_scores_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x32x128 := by decide
  reducesTo_S1x4096x32x128_S_d0_1_2_3 := by decide

theorem preReference : Cert.Pre_finite_scores_ReferenceIdeal.Facts where
  bcast_S_S1x1024x1024 := by decide
  reducesTo_S1x1024x1024_S_d0_1_2 := by decide
  h_S_ := by decide
  bcast_S_S1024x4096 := by decide
  reducesTo_S1024x4096_S_d0_1 := by decide
  bcast_S_S1x4096x32x128 := by decide
  reducesTo_S1x4096x32x128_S_d0_1_2_3 := by decide

variable (m : (ℓ : Loc nD τ sig) → Buf (Elt Ideal) ℓ)

/-! ## The windows -/

theorem xstg_eq (c : Dev nD) : xstg m c = m ((c.tc : Thread nD τ).loc Cert.KernelIdeal.main_arg0) :=
  Memref.read_access_unit_zero (Elt Ideal) Cert.KernelIdeal.main_arg0
    (off := fun a => (win0_0.index (0 : Fin 1)) a * Cert.KernelIdeal.main_arg0.ty.shape.size a)
    (funext fun a => by fin_cases a <;> decide) (fun a => by fin_cases a <;> decide) _
theorem wqstg_eq (c : Dev nD) : wqstg m c = m ((c.tc : Thread nD τ).loc Cert.KernelIdeal.main_arg1) :=
  Memref.read_access_unit_zero (Elt Ideal) Cert.KernelIdeal.main_arg1
    (off := fun a => (win0_1.index (0 : Fin 1)) a * Cert.KernelIdeal.main_arg1.ty.shape.size a)
    (funext fun a => by fin_cases a <;> decide) (fun a => by fin_cases a <;> decide) _
theorem wostg_eq (c : Dev nD) : wostg m c = m ((c.tc : Thread nD τ).loc Cert.KernelIdeal.main_arg4) :=
  Memref.read_access_unit_zero (Elt Ideal) Cert.KernelIdeal.main_arg4
    (off := fun a => (win0_2.index (0 : Fin 1)) a * Cert.KernelIdeal.main_arg4.ty.shape.size a)
    (funext fun a => by fin_cases a <;> decide) (fun a => by fin_cases a <;> decide) _
/-- The output's window is the whole output. -/
theorem out_eq (f : Cert.KernelIdeal.main_v1.ty.Contents (Elt Ideal)) :
    (win0_3.blk (0 : Fin 1)).view.read (Elt Ideal) f = f :=
  Memref.read_access_unit_zero (Elt Ideal) Cert.KernelIdeal.main_v1
    (off := fun a => (win0_3.index (0 : Fin 1)) a * Cert.KernelIdeal.main_v1.ty.shape.size a)
    (funext fun a => by fin_cases a <;> decide) (fun a => by fin_cases a <;> decide) f

/-- Place `(j, h, d)` of the keys or values is row `j`, column `128 h + d`. -/
theorem place (j : Fin 4096) (h : Fin 32) (d : Fin 128) (hk : (⟨4, ![1, 4096, 32, 128]⟩ : Shape).numel = (⟨2, ![4096, 4096]⟩ : Shape).numel) :
    Shape.reshapeEquiv hk.symm (ix2 j (col h d)) = ix4 0 j h d := by
  refine Shape.reshapeEquiv_eq_of_rowMajor _ ?_
  rw [Shape.rowMajor_val_two, Shape.rowMajor_val_four]
  show ((0 * 4096 + j.val) * 32 + h.val) * 128 + d.val = j.val * 4096 + (128 * h.val + d.val)
  omega

/-- The keys and the values a device has. -/
theorem kvX_at (c : Dev nD) (j : Fin 4096) (h : Fin 32) (d : Fin 128) :
    kvX m c false (ix2 j (col h d)) = m ((c.tc : Thread nD τ).loc Cert.KernelIdeal.main_arg2) (ix4 0 j h d)
    ∧ kvX m c true (ix2 j (col h d)) = m ((c.tc : Thread nD τ).loc Cert.KernelIdeal.main_arg3) (ix4 0 j h d) := by
  constructor
  · exact congrArg (m ((c.tc : Thread nD τ).loc Cert.KernelIdeal.main_arg2)) (place j h d (by decide))
  · exact congrArg (m ((c.tc : Thread nD τ).loc Cert.KernelIdeal.main_arg3)) (place j h d (by decide))

/-! ## The blocks -/

theorem block_x (c : Dev nD) (r : Fin 256) (t : Fin 1024) (h : Layout.Tiles ⟨3, ![1, 256, 1024]⟩ ⟨3, ![1, 1024, 1024]⟩ 1 4) :
    h.idx c (ix3 0 r t) = ix3 0 (grow c r) t := by
  refine funext fun a => Fin.ext ?_
  rw [Layout.Tiles.idx_val]
  match a with
  | ⟨0, _⟩ => rfl
  | ⟨1, _⟩ =>
    show c.val * 256 + r.val = 256 * c.val + r.val
    omega
  | ⟨2, _⟩ => rfl

theorem block_wq (c : Dev nD) (t e : Fin 1024) (h : Layout.Tiles ⟨2, ![1024, 1024]⟩ ⟨2, ![1024, 4096]⟩ 1 4) :
    h.idx c (ix2 t e) = ix2 t (gcol c e) := by
  refine funext fun a => Fin.ext ?_
  rw [Layout.Tiles.idx_val]
  match a with
  | ⟨0, _⟩ => rfl
  | ⟨1, _⟩ =>
    show c.val * 1024 + e.val = 1024 * c.val + e.val
    omega

theorem block_wo (c : Dev nD) (e n : Fin 1024) (h : Layout.Tiles ⟨2, ![1024, 1024]⟩ ⟨2, ![4096, 1024]⟩ 0 4) :
    h.idx c (ix2 e n) = ix2 (gcol c e) n := by
  refine funext fun a => Fin.ext ?_
  rw [Layout.Tiles.idx_val]
  match a with
  | ⟨0, _⟩ =>
    show c.val * 1024 + e.val = 1024 * c.val + e.val
    omega
  | ⟨1, _⟩ => rfl

theorem block_out (c : Dev nD) (r : Fin 256) (n : Fin 1024) (h : Layout.Tiles ⟨2, ![256, 1024]⟩ ⟨2, ![1024, 1024]⟩ 0 4) :
    h.idx c (ix2 r n) = ix2 (grow c r) n := by
  refine funext fun a => Fin.ext ?_
  rw [Layout.Tiles.idx_val]
  match a with
  | ⟨0, _⟩ =>
    show c.val * 256 + r.val = 256 * c.val + r.val
    omega
  | ⟨1, _⟩ => rfl

/-! ## The precondition -/

/-- A comparison with infinity that came out one says that the element is a real. -/
theorem real_of_lt {a : EReal} (h : Ideal.cmp .olt (max a (-a)) (Ideal.ofBits .f32 0x7F800000#32) = 1#1) :
    ∃ r : ℝ, a = (r : EReal) := by
  refine real_of_abs_lt ?_
  have e : Ideal.ofBits .f32 0x7F800000#32 = ⊤ := by simp [Ideal.ofBits, Ideal.ieee]
  rw [e] at h
  by_contra hn
  have h' : BitVec.ofBool (decide (max a (-a) < ⊤)) = 1#1 := h
  rw [decide_eq_false hn] at h'
  exact absurd h' (by decide)

instance scalarIdx : Subsingleton Cert.Pre_finite_scores_KernelIdeal.S_.Idx := ⟨fun a b => funext fun i => i.elim0⟩

/-- An array all of whose comparisons with infinity came out one is of reals. -/
theorem all_reals {S : Shape} {axes : List (Fin S.rank)} (x : FVec Ideal S .f32)
    (hb : Cert.Pre_finite_scores_KernelIdeal.S_.BroadcastsInDim S (![] : Fin 0 → Fin S.rank))
    (hr : S.ReducesTo axes Cert.Pre_finite_scores_KernelIdeal.S_) (hu : 0 < Cert.Pre_finite_scores_KernelIdeal.S_.numel)
    (e : Host.reduce IntOp.andi (cmpf .olt (Host.absf x)
      (broadcastInDim S ![] hb (constant (F := Ideal) Cert.Pre_finite_scores_KernelIdeal.S_ .f32 0x7F800000#32)))
      (constantI Cert.Pre_finite_scores_KernelIdeal.S_ 1 1#1) hr hu ix0 = 1#1) (i : S.Idx) : ∃ r : ℝ, (x i : EReal) = (r : EReal) :=
  real_of_lt (Host.reduce_andi_all _ _ hr hu ix0 e i)

/-- The precondition, element by element. -/
theorem pre_reals (h : Cert.Pre_KernelIdeal_finite_scores_KernelIdeal (hPre_finite_scores_KernelIdeal := preKernel) m) (c : Dev nD) :
    (∀ i, ∃ r : ℝ, (m ((c.tc : Thread nD τ).loc Cert.KernelIdeal.main_arg0) i : EReal) = (r : EReal))
    ∧ (∀ i, ∃ r : ℝ, (m ((c.tc : Thread nD τ).loc Cert.KernelIdeal.main_arg1) i : EReal) = (r : EReal))
    ∧ ∀ i, ∃ r : ℝ, (m ((c.tc : Thread nD τ).loc Cert.KernelIdeal.main_arg2) i : EReal) = (r : EReal) := by
  have h0 := congrFun (h c) ix0
  obtain ⟨h1, h4⟩ := IntOp.andi_eq_one.1 h0
  obtain ⟨h2, h3⟩ := IntOp.andi_eq_one.1 h1
  exact ⟨all_reals _ preKernel.bcast_S_S1x256x1024 preKernel.reducesTo_S1x256x1024_S_d0_1_2 preKernel.h_S_ h2,
    all_reals _ preKernel.bcast_S_S1024x1024 preKernel.reducesTo_S1024x1024_S_d0_1 preKernel.h_S_ h3,
    all_reals _ preKernel.bcast_S_S1x4096x32x128 preKernel.reducesTo_S1x4096x32x128_S_d0_1_2_3 preKernel.h_S_ h4⟩

/-! ## Both together -/

section Whole

variable {x : FVec Ideal Cert.ReferenceIdeal.S1x1024x1024 .f32} {wq : FVec Ideal Cert.ReferenceIdeal.S1024x4096 .f32}
  {k v : FVec Ideal Cert.ReferenceIdeal.S1x4096x32x128 .f32} {wo : FVec Ideal Cert.ReferenceIdeal.S4096x1024 .f32}

/-- The devices' arguments are blocks of the whole arrays. -/
def Agrees (x : FVec Ideal Cert.ReferenceIdeal.S1x1024x1024 .f32) (wq : FVec Ideal Cert.ReferenceIdeal.S1024x4096 .f32)
    (k v : FVec Ideal Cert.ReferenceIdeal.S1x4096x32x128 .f32) (wo : FVec Ideal Cert.ReferenceIdeal.S4096x1024 .f32) : Prop :=
  ∀ c : Dev nD,
    m ((c.tc : Thread nD τ).loc Cert.KernelIdeal.main_arg0) = Layout.block ⟨3, ![1, 256, 1024]⟩ ⟨3, ![1, 1024, 1024]⟩ 1 4 c x
    ∧ m ((c.tc : Thread nD τ).loc Cert.KernelIdeal.main_arg1) = Layout.block ⟨2, ![1024, 1024]⟩ ⟨2, ![1024, 4096]⟩ 1 4 c wq
    ∧ m ((c.tc : Thread nD τ).loc Cert.KernelIdeal.main_arg2) = k
    ∧ m ((c.tc : Thread nD τ).loc Cert.KernelIdeal.main_arg3) = v
    ∧ m ((c.tc : Thread nD τ).loc Cert.KernelIdeal.main_arg4) = Layout.block ⟨2, ![1024, 1024]⟩ ⟨2, ![4096, 1024]⟩ 0 4 c wo

theorem holds_of_agrees (h : Agrees m x wq k v wo) : Holds m x wq k v wo where
  x c r t := by
    rw [xstg_eq, (h c).1, Layout.block_apply, block_x]
  wq c t e := by
    rw [wqstg_eq, (h c).2.1, Layout.block_apply, block_wq]
  k c j hd d := by
    rw [(kvX_at m c j hd d).1, (h c).2.2.1]
  v c j hd d := by
    rw [(kvX_at m c j hd d).2, (h c).2.2.2.1]
  wo c e n := by
    rw [wostg_eq, (h c).2.2.2.2, Layout.block_apply, block_wo]

/-- Every row is a row of one chunk, -/
theorem grow_split (i : Fin 1024) : ∃ (c : Dev nD) (r : Fin 256), grow c r = i :=
  ⟨⟨i.val / 256, by have := i.isLt; show i.val / 256 < 4; omega⟩, ⟨i.val % 256, by omega⟩,
    Fin.ext (by show 256 * (i.val / 256) + i.val % 256 = i.val; omega)⟩
/-- and every column a column of one device. -/
theorem gcol_split (i : Fin 4096) : ∃ (c : Dev nD) (e : Fin 1024), gcol c e = i :=
  ⟨⟨i.val / 1024, by have := i.isLt; show i.val / 1024 < 4; omega⟩, ⟨i.val % 1024, by omega⟩,
    Fin.ext (by show 1024 * (i.val / 1024) + i.val % 1024 = i.val; omega)⟩

theorem reals_of_pre (h : Agrees m x wq k v wo)
    (hp : Cert.Pre_KernelIdeal_finite_scores_KernelIdeal (hPre_finite_scores_KernelIdeal := preKernel) m) : Reals x wq k where
  x i t := by
    obtain ⟨c, r, rfl⟩ := grow_split i
    have := (pre_reals m hp c).1 (ix3 0 r t)
    rw [(h c).1, Layout.block_apply, block_x] at this
    exact this
  wq t e := by
    obtain ⟨c, e', rfl⟩ := gcol_split e
    have := (pre_reals m hp c).2.1 (ix2 t e')
    rw [(h c).2.1, Layout.block_apply, block_wq] at this
    exact this
  k j hd d := by
    have := (pre_reals m hp (0 : Fin 4)).2.2 (ix4 0 j hd d)
    rw [(h (0 : Fin 4)).2.2.1] at this
    exact this

/-- What the last sum writes is the device's block of the reference's value. -/
theorem out_block (h : Agrees m x wq k v wo)
    (hp : Cert.Pre_KernelIdeal_finite_scores_KernelIdeal (hPre_finite_scores_KernelIdeal := preKernel) m) (c : Dev nD) :
    (Cert.KernelIdeal.Att.AV (F := Ideal) m 3 c : FVec Ideal ⟨2, ![256, 1024]⟩ .f32)
      = Layout.block ⟨2, ![256, 1024]⟩ ⟨2, ![1024, 1024]⟩ 0 4 c (Cert.ReferenceIdeal.Att.whole x wq k v wo) := by
  refine funext fun i => ?_
  have e : ∀ (r : Fin 256) (n : Fin 1024), (Cert.KernelIdeal.Att.AV (F := Ideal) m 3 c : FVec Ideal ⟨2, ![256, 1024]⟩ .f32) (ix2 r n)
      = Layout.block ⟨2, ![256, 1024]⟩ ⟨2, ![1024, 1024]⟩ 0 4 c (Cert.ReferenceIdeal.Att.whole x wq k v wo) (by decide) (ix2 r n) := fun r n =>
    (AV_eq m (holds_of_agrees m h) (reals_of_pre m h hp) c r n).trans
      (congrArg (Cert.ReferenceIdeal.Att.whole x wq k v wo) (block_out c r n (by decide))).symm
  have hi : i = ix2 (i 0) (i 1) := eq_ix2 i
  rw [hi]
  exact e (i 0) (i 1)

end Whole

end Cert.Attention
-- ==== Proof.lean ====
/-
# The certificate

The claims are put together here. The frames of the kernel, as printed and over the extended reals, are ends of one
run (`Proof/Kernel/End.lean`, `Proof/KernelIdeal/End.lean`); that the kernel computes the reference's value is
`Proof/Value/Agree.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.End
public import proofs.«01_k».proof.Proof.KernelIdeal.End
public import proofs.«01_k».proof.Proof.Value.Agree
public import Idealize.ShloMosaic.Adequacy
public import Idealize.ShloMosaic.Init

@[expose] public section

noncomputable section

namespace Cert.Proof

open Idealize.ShloMosaic Idealize.SL.Sem Cert.Kernel

/-- Every fair run of the printed kernel ends with its arguments unchanged and every counter zero; -/
theorem frame_kernel : Cert.quiescent_Kernel (hKernel := Cert.Kernel.Gen.facts) := fun m g _ =>
  (θ_run _ _ _).mono (fun _ h => ⟨fun c => (h.1 c).2, h.2⟩) (Cert.Kernel.Att.run_end m g)

/-- so does its reading over the extended reals, -/
theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.Att.run_end m g)

/-- and the reference, which has no counter. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The frames hold of every memory, so of those of finite scores. -/
theorem frame_kernelIdeal_finite : Cert.quiescent_KernelIdeal_pre_finite_scores_KernelIdeal (hKernelIdeal := Cert.KernelIdeal.Gen.facts)
    (hPre_finite_scores_KernelIdeal := Cert.Attention.preKernel) := fun m g _ =>
  (θ_run _ _ _).mono (fun _ h => ⟨fun c => (h.1 c).2, h.2⟩) (Cert.KernelIdeal.Att.run_end m g)

theorem frame_referenceIdeal_finite : Cert.quiescent_ReferenceIdeal_pre_finite_scores_ReferenceIdeal
    (hReferenceIdeal := Cert.ReferenceIdeal.Gen.facts) (hPre_finite_scores_ReferenceIdeal := Cert.Attention.preReference) := fun m g _ =>
  (θ_run _ _ _).mono (fun r h => ⟨fun c => (h c).2, sem_eq_zero_of_no_sems (by decide) r.2⟩) (Cert.ReferenceIdeal.Value.run m g)

/-- Over the extended reals, from finite scores, every device ends with its rows of what the reference computes. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := Cert.Attention.preKernel) := fun m g m' g' hp ha => by
  refine ⟨Cert.ReferenceIdeal.Value.res_main_v40 m' 0, ?_, ?_⟩
  · refine (θ_run _ _ _).mono (fun r h c => ⟨?_, (h.1 c).2⟩) (Cert.KernelIdeal.Att.run_end m g)
    have e := (h.1 c).1
    rw [Cert.Attention.out_eq] at e
    refine e.trans ?_
    rw [Cert.ReferenceIdeal.Att.whole_eq]
    exact Cert.Attention.out_block m ha hp c
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  Cert.Attention.preKernel, Cert.Attention.preReference,
  frame_kernel, frame_kernelIdeal, frame_kernelIdeal_finite, frame_referenceIdeal, frame_referenceIdeal_finite, trivial, algebraic⟩

end Cert.Proof

end
